-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_near_apart [hPre_near_apart : Cert.Pre_near_apart.Facts] (m : (ℓ : Loc Cert.KernelIdeal.nD Cert.KernelIdeal.τ Cert.KernelIdeal.sig) → Buf (Elt Ideal) ℓ) : Prop :=
  ∀ c : Dev Cert.KernelIdeal.nD,
    (Cert.Pre_near_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_near_apart [hPre_near_apart : Cert.Pre_near_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_near_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_near_apart [hKernelIdeal : Cert.KernelIdeal.Facts] [hPre_near_apart : Cert.Pre_near_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_near_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_near_apart [hReferenceIdeal : Cert.ReferenceIdeal.Facts] [hPre_near_apart : Cert.Pre_near_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_near_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_near_apart [hKernelIdeal : Cert.KernelIdeal.Facts] [hReferenceIdeal : Cert.ReferenceIdeal.Facts] [hPre_near_apart : Cert.Pre_near_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_near_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_cst_1)) (v3 : (c : Dev Cert.KernelIdeal.nD) → Buf (Elt Ideal) ((c.tc : Thread Cert.KernelIdeal.nD Cert.KernelIdeal.τ).loc Cert.KernelIdeal.main_cst_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_cst_1) = v2 c
          ∧ r.2.mem ((c.tc : Thread Cert.KernelIdeal.nD Cert.KernelIdeal.τ).loc Cert.KernelIdeal.main_cst_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_cst_25) = v2 c
          ∧ r.2.mem ((c.tc : Thread Cert.ReferenceIdeal.nD Cert.ReferenceIdeal.τ).loc Cert.ReferenceIdeal.main_cst_26) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_near_apart : Cert.Pre_near_apart.Facts),
    quiescent_Kernel (hKernel := hKernel)
    ∧ quiescent_KernelIdeal (hKernelIdeal := hKernelIdeal)
    ∧ quiescent_KernelIdeal_pre_near_apart (hKernelIdeal := hKernelIdeal) (hPre_near_apart := hPre_near_apart)
    ∧ quiescent_ReferenceIdeal (hReferenceIdeal := hReferenceIdeal)
    ∧ quiescent_ReferenceIdeal_pre_near_apart (hReferenceIdeal := hReferenceIdeal) (hPre_near_apart := hPre_near_apart)
    ∧ preserves_Kernel_KernelIdeal
    ∧ algebraic_KernelIdeal_ReferenceIdeal_pre_near_apart (hKernelIdeal := hKernelIdeal) (hReferenceIdeal := hReferenceIdeal) (hPre_near_apart := hPre_near_apart)
-- ==== Pre_near_apart.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩
abbrev S4096x17 : Shape := ⟨2, ![4096, 17]⟩

class Facts : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  slices_S4096x4096_S4096x17_0_1 : S4096x4096.Slices ![0, 1] S4096x17
  slices_S4096x4096_S4096x17_0_0 : S4096x4096.Slices ![0, 0] S4096x17
  reducesTo_S4096x17_S_d0_1 : S4096x17.ReducesTo [0, 1] S_
  slices_S4096x4096_S4096x1_0_1 : S4096x4096.Slices ![0, 1] S4096x1
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts]

variable {F : FTy → Type} [FloatOps F]
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S4096x4096 .f32) : FVec F S4096x4096 .f32 :=
  let v0 : FVec F S4096x4096 .f32 := (fun x => Host.sort S4096x4096 1 comparator_f32_d1 x) arg0
  v0

def fn_part1 {F : FTy → Type} [FloatOps F] (main_arg1 : IVec S4096 32) (main_v16 : IVec S_ 1) (main_v18 : FVec F S4096 .f32) (main_v19 : FVec F S4096 .f32) : IVec S_ 1 :=
  let main_v20 : IVec S4096 1 := cmpf .oge main_v18 main_v19
  let main_c_2 : IVec S_ 1 := constantI S_ 1 1#1
  let main_v21 : IVec S_ 1 := (fun x v => Host.reduce IntOp.andi x v reducesTo_S4096_S_d0 h_S_) main_v20 main_c_2
  let main_v22 : IVec S_ 1 := andi main_v16 main_v21
  let main_c_3 : IVec S_ 32 := constantI S_ 32 0#32
  let main_v23 : IVec S4096 32 := broadcastInDim S4096 ![] bcast_S_S4096 main_c_3
  let main_v24 : IVec S4096 1 := cmpi .sge main_arg1 main_v23
  let main_c_4 : IVec S_ 32 := constantI S_ 32 64#32
  let main_v25 : IVec S4096 32 := broadcastInDim S4096 ![] bcast_S_S4096 main_c_4
  let main_v26 : IVec S4096 1 := cmpi .slt main_arg1 main_v25
  let main_v27 : IVec S4096 1 := andi main_v24 main_v26
  let main_c_5 : IVec S_ 1 := constantI S_ 1 1#1
  let main_v28 : IVec S_ 1 := (fun x v => Host.reduce IntOp.andi x v reducesTo_S4096_S_d0 h_S_) main_v27 main_c_5
  let main_v29 : IVec S_ 1 := andi main_v22 main_v28
  main_v29

def fn {F : FTy → Type} [FloatOps F] (main_arg0 : FVec F S4096x512 .f32) (main_arg1 : IVec S4096 32) : IVec S_ 1 :=
  let main_v0 : FVec F S4096x512 .f32 := mulf main_arg0 main_arg0
  let main_cst : FVec F S_ .f32 := constant S_ .f32 0x00000000#32
  let main_v1 : FVec F S4096 .f32 := (fun x v => Host.reduceAdd x v reducesTo_S4096x512_S4096_d1 h_S_) main_v0 main_cst
  let main_v2 : FVec F S4096x1 .f32 := broadcastInDim S4096x1 ![0] bcast_S4096_S4096x1_0 main_v1
  let main_v3 : FVec F S1x4096 .f32 := (transpose S1x4096 [1, 0] · transposes_S4096x1_S1x4096_1_0) main_v2
  let main_v4 : FVec F S4096x4096 .f32 := broadcastInDim S4096x4096 ![0, 1] bcast_S4096x1_S4096x4096_0_1 main_v2
  let main_v5 : FVec F S4096x4096 .f32 := broadcastInDim S4096x4096 ![0, 1] bcast_S1x4096_S4096x4096_0_1 main_v3
  let main_v6 : FVec F S4096x4096 .f32 := addf main_v4 main_v5
  let main_v7 : FVec F S512x4096 .f32 := (transpose S512x4096 [1, 0] · transposes_S4096x512_S512x4096_1_0) main_arg0
  let main_v8 : FVec F S4096x4096 .f32 := (fun l r => Host.dotGeneral dot_S4096x512_S512x4096_S4096x4096_1_0_0_1_n_n none l r) main_arg0 main_v7
  let main_cst_0 : FVec F S_ .f32 := constant S_ .f32 0x40000000#32
  let main_v9 : FVec F S4096x4096 .f32 := broadcastInDim S4096x4096 ![] bcast_S_S4096x4096 main_cst_0
  let main_v10 : FVec F S4096x4096 .f32 := mulf main_v9 main_v8
  let main_v11 : FVec F S4096x4096 .f32 := subf main_v6 main_v10
  let main_v12 : FVec F S4096x4096 .f32 := fn_sort (F := F) main_v11
  let main_v13 : FVec F S4096x17 .f32 := (extractStridedSlice S4096x17 ![0, 1] · slices_S4096x4096_S4096x17_0_1) main_v12
  let main_v14 : FVec F S4096x17 .f32 := (extractStridedSlice S4096x17 ![0, 0] · slices_S4096x4096_S4096x17_0_0) main_v12
  let main_v15 : IVec S4096x17 1 := cmpf .ogt main_v13 main_v14
  let main_c : IVec S_ 1 := constantI S_ 1 1#1
  let main_v16 : IVec S_ 1 := (fun x v => Host.reduce IntOp.andi x v reducesTo_S4096x17_S_d0_1 h_S_) main_v15 main_c
  let main_v17 : FVec F S4096x1 .f32 := (extractStridedSlice S4096x1 ![0, 1] · slices_S4096x4096_S4096x1_0_1) main_v12
  let main_v18 : FVec F S4096 .f32 := shapeCast S4096 main_v17 shapeCasts_S4096x1_S4096
  let main_cst_1 : FVec F S_ .f32 := constant S_ .f32 0x2B8CBCCC#32
  let main_v19 : FVec F S4096 .f32 := broadcastInDim S4096 ![] bcast_S_S4096 main_cst_1
  fn_part1 (F := F) main_arg1 main_v16 main_v18 main_v19
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S1x128 : Shape := ⟨2, ![1, 128]⟩
abbrev S256x512 : Shape := ⟨2, ![256, 512]⟩
abbrev S1x64 : Shape := ⟨2, ![1, 64]⟩
abbrev S1x512 : Shape := ⟨2, ![1, 512]⟩
abbrev S4096x64 : Shape := ⟨2, ![4096, 64]⟩
abbrev S64 : Shape := ⟨1, ![64]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1 : Shape := ⟨1, ![1]⟩
abbrev S1x1x1 : Shape := ⟨3, ![1, 1, 1]⟩
abbrev S256x64 : Shape := ⟨2, ![256, 64]⟩
abbrev S1x256x1 : Shape := ⟨3, ![1, 256, 1]⟩
abbrev S1x1 : Shape := ⟨2, ![1, 1]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S1x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S4096x512, .f32⟩
  | .local _ .vmem, ⟨3, _⟩ => ⟨S4096x1, .i32⟩
  | .local _ .vmem, ⟨4, _⟩ => ⟨S1x4096, .i32⟩
  | .local _ .vmem, ⟨5, _⟩ => ⟨S1x128, .f32⟩
  | .local _ .vmem, ⟨6, _⟩ => ⟨S1x4096, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_cst_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32_120 : BitVec 32 := 256#32
  let v765 : BitVec 32 := Scalar.muli arg0 c256_i32_120
  let v766 : Index := Scalar.indexCast v765
  let c0_121 : Index := 0#32
  ![v766.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩
abbrev S4096x2 : Shape := ⟨2, ![4096, 2]⟩

abbrev nBuf : Space → Nat
  | .hbm => 134
  | .vmem => 0
  | .smem => 0
  | _ => 0

abbrev hbmTy0_0 (i : Nat) : BufTy := match i % 128 with
  | 0 => ⟨S4096x512, .f32⟩
  | 1 => ⟨S4096, .i32⟩
  | 2 => ⟨S4096x512, .f32⟩
  | 3 => ⟨S_, .f32⟩
  | 4 => ⟨S4096, .f32⟩
  | 5 => ⟨S4096x1, .f32⟩
  | 6 => ⟨S1x4096, .f32⟩
  | 7 => ⟨S4096x4096, .f32⟩
  | 8 => ⟨S4096x4096, .f32⟩
  | 9 => ⟨S4096x4096, .f32⟩
  | 10 => ⟨S512x4096, .f32⟩
  | 11 => ⟨S4096x4096, .f32⟩
  | 12 => ⟨S_, .f32⟩
  | 13 => ⟨S4096x4096, .f32⟩
  | 14 => ⟨S4096x4096, .f32⟩
  | 15 => ⟨S4096x4096, .f32⟩
  | 16 => ⟨S_, .f32⟩
  | 17 => ⟨S_, .f32⟩
  | 18 => ⟨S4096x4096, .f32⟩
  | 19 => ⟨S4096x4096, .f32⟩
  | 20 => ⟨S4096x4096, .f32⟩
  | 21 => ⟨S4096x4096, .i32⟩
  | 22 => ⟨S4096x4096, .i32⟩
  | 23 => ⟨S_, .i32⟩
  | 24 => ⟨S4096x4096, .i32⟩
  | 25 => ⟨S4096x4096, .i32⟩
  | 26 => ⟨S4096x4096, .i1⟩
  | 27 => ⟨S4096x1, .i32⟩
  | 28 => ⟨S1x4096, .i32⟩
  | 29 => ⟨S4096x4096, .i32⟩
  | 30 => ⟨S4096x4096, .i32⟩
  | 31 => ⟨S4096x4096, .i1⟩
  | 32 => ⟨S4096x4096, .i1⟩
  | 33 => ⟨S4096x4096, .i1⟩
  | 34 => ⟨S4096x4096, .i1⟩
  | 35 => ⟨S_, .f32⟩
  | 36 => ⟨S_, .f32⟩
  | 37 => ⟨S4096x4096, .f32⟩
  | 38 => ⟨S4096x4096, .f32⟩
  | 39 => ⟨S4096x4096, .f32⟩
  | 40 => ⟨S4096x1, .f32⟩
  | 41 => ⟨S4096, .f32⟩
  | 42 => ⟨S4096x1, .f32⟩
  | 43 => ⟨S4096x4096, .f32⟩
  | 44 => ⟨S4096x4096, .i1⟩
  | 45 => ⟨S4096x4096, .i1⟩
  | 46 => ⟨S4096x4096, .i1⟩
  | 47 => ⟨S_, .f32⟩
  | 48 => ⟨S4096x4096, .f32⟩
  | 49 => ⟨S4096x4096, .f32⟩
  | 50 => ⟨S_, .f32⟩
  | 51 => ⟨S4096x4096, .f32⟩
  | 52 => ⟨S4096x4096, .f32⟩
  | 53 => ⟨S4096x4096, .f32⟩
  | 54 => ⟨S_, .f32⟩
  | 55 => ⟨S_, .f32⟩
  | 56 => ⟨S4096x4096, .f32⟩
  | 57 => ⟨S4096x4096, .f32⟩
  | 58 => ⟨S_, .f32⟩
  | 59 => ⟨S4096, .f32⟩
  | 60 => ⟨S_, .f32⟩
  | 61 => ⟨S_, .f32⟩
  | 62 => ⟨S4096x4096, .f32⟩
  | 63 => ⟨S4096x4096, .f32⟩
  | 64 => ⟨S_, .f32⟩
  | 65 => ⟨S4096, .f32⟩
  | 66 => ⟨S_, .i1⟩
  | 67 => ⟨S4096, .i1⟩
  | 68 => ⟨S4096x4096, .i32⟩
  | 69 => ⟨S_, .i1⟩
  | 70 => ⟨S_, .i32⟩
  | 71 => ⟨S4096, .i1⟩
  | 72 => ⟨S4096, .i32⟩
  | 73 => ⟨S4096, .i32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S4096x1, .i32⟩
  | 90 => ⟨S4096x2, .i32⟩
  | 91 => ⟨S4096, .f32⟩
  | 92 => ⟨S_, .f32⟩
  | 93 => ⟨S4096, .f32⟩
  | 94 => ⟨S4096, .f32⟩
  | 95 => ⟨S_, .f32⟩
  | 96 => ⟨S4096, .f32⟩
  | 97 => ⟨S4096, .f32⟩
  | 98 => ⟨S4096, .f32⟩
  | 99 => ⟨S4096, .f32⟩
  | 100 => ⟨S4096, .f32⟩
  | 101 => ⟨S4096, .f32⟩
  | 102 => ⟨S4096, .f32⟩
  | 103 => ⟨S4096, .f32⟩
  | 104 => ⟨S_, .i1⟩
  | 105 => ⟨S4096, .i1⟩
  | 106 => ⟨S_, .i1⟩
  | 107 => ⟨S4096, .i1⟩
  | 108 => ⟨S4096, .i1⟩
  | 109 => ⟨S4096, .i32⟩
  | 110 => ⟨S_, .i32⟩
  | 111 => ⟨S_, .i32⟩
  | 112 => ⟨S_, .i32⟩
  | 113 => ⟨S_, .i32⟩
  | 114 => ⟨S_, .f32⟩
  | 115 => ⟨S_, .f32⟩
  | 116 => ⟨S4096, .f32⟩
  | 117 => ⟨S4096, .f32⟩
  | 118 => ⟨S_, .f32⟩
  | 119 => ⟨S_, .f32⟩
  | 120 => ⟨S_, .f32⟩
  | 121 => ⟨S_, .f32⟩
  | 122 => ⟨S_, .f32⟩
  | 123 => ⟨S4096, .f32⟩
  | 124 => ⟨S4096, .i1⟩
  | 125 => ⟨S4096, .i1⟩
  | 126 => ⟨S4096, .i32⟩
  | 127 => ⟨S_, .i32⟩
  | _ => ⟨S4096x512, .f32⟩

abbrev hbmTy0_1 (i : Nat) : BufTy := match i % 128 with
  | 0 => ⟨S_, .i32⟩
  | 1 => ⟨S_, .f32⟩
  | 2 => ⟨S_, .f32⟩
  | 3 => ⟨S_, .f32⟩
  | 4 => ⟨S_, .f32⟩
  | 5 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_call3_v0 : Ref sig .tc := ⟨.hbm, 55, rfl⟩
abbrev main_call3_v1 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_cst_7 : Ref sig .tc := ⟨.hbm, 60, rfl⟩
abbrev main_call4_v0 : Ref sig .tc := ⟨.hbm, 61, rfl⟩
abbrev main_call4_v1 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_call5_v0 : Ref sig .tc := ⟨.hbm, 68, rfl⟩
abbrev main_call5_c : Ref sig .tc := ⟨.hbm, 69, rfl⟩
abbrev main_call5_c_0 : Ref sig .tc := ⟨.hbm, 70, rfl⟩
abbrev main_call5_v1_0 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_12 : Ref sig .tc := ⟨.hbm, 81, rfl⟩
abbrev main_v53 : Ref sig .tc := ⟨.hbm, 82, rfl⟩
abbrev main_v54 : Ref sig .tc := ⟨.hbm, 83, rfl⟩
abbrev main_c_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_cst_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_c_19 : Ref sig .tc := ⟨.hbm, 112, rfl⟩
abbrev main_v77 : Ref sig .tc := ⟨.hbm, 113, rfl⟩
abbrev main_cst_20 : Ref sig .tc := ⟨.hbm, 114, rfl⟩
abbrev main_call7_v0 : Ref sig .tc := ⟨.hbm, 115, rfl⟩
abbrev main_call7_v1 : Ref sig .tc := ⟨.hbm, 116, rfl⟩
abbrev main_v78 : Ref sig .tc := ⟨.hbm, 117, rfl⟩
abbrev main_cst_21 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_22 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_23 : Ref sig .tc := ⟨.hbm, 127, rfl⟩
abbrev main_v86 : Ref sig .tc := ⟨.hbm, 128, rfl⟩
abbrev main_v87 : Ref sig .tc := ⟨.hbm, 129, rfl⟩
abbrev main_cst_24 : Ref sig .tc := ⟨.hbm, 130, rfl⟩
abbrev main_v88 : Ref sig .tc := ⟨.hbm, 131, rfl⟩
abbrev main_cst_25 : Ref sig .tc := ⟨.hbm, 132, rfl⟩
abbrev main_cst_26 : Ref sig .tc := ⟨.hbm, 133, rfl⟩

abbrev nD : Nat := 1
abbrev τ : Topo := Topo.v7x

variable {F : FTy → Type} [FloatOps F]
-- ==== Proof.Near.lean ====
/- The shape relations the precondition's operations take. -/
module

public import proofs.«01_k».proof.Pre_near_apart
public import proofs.«01_k».proof.Proof.Gen.ReferenceIdeal

@[expose] public section

noncomputable section

namespace Cert.Pre_near_apart.Knn

open Idealize.ShloMosaic

instance facts : Cert.Pre_near_apart.Facts where
  reducesTo_S4096x512_S4096_d1 := Cert.ReferenceIdeal.Gen.reducesTo_S4096x512_S4096_d1
  h_S_ := Cert.ReferenceIdeal.Gen.h_S_
  bcast_S4096_S4096x1_0 := Cert.ReferenceIdeal.Gen.bcast_S4096_S4096x1_0
  transposes_S4096x1_S1x4096_1_0 := Cert.ReferenceIdeal.Gen.transposes_S4096x1_S1x4096_1_0
  bcast_S4096x1_S4096x4096_0_1 := Cert.ReferenceIdeal.Gen.bcast_S4096x1_S4096x4096_0_1
  bcast_S1x4096_S4096x4096_0_1 := Cert.ReferenceIdeal.Gen.bcast_S1x4096_S4096x4096_0_1
  transposes_S4096x512_S512x4096_1_0 := Cert.ReferenceIdeal.Gen.transposes_S4096x512_S512x4096_1_0
  bcast_S_S4096x4096 := Cert.ReferenceIdeal.Gen.bcast_S_S4096x4096
  slices_S4096x4096_S4096x17_0_1 := by decide
  slices_S4096x4096_S4096x17_0_0 := by decide
  reducesTo_S4096x17_S_d0_1 := by decide
  slices_S4096x4096_S4096x1_0_1 := by decide
  shapeCasts_S4096x1_S4096 := Cert.ReferenceIdeal.Gen.shapeCasts_S4096x1_S4096
  bcast_S_S4096 := Cert.ReferenceIdeal.Gen.bcast_S_S4096
  reducesTo_S4096_S_d0 := Cert.ReferenceIdeal.Gen.reducesTo_S4096_S_d0
  dot_S4096x512_S512x4096_S4096x4096_1_0_0_1_n_n_wf := Cert.ReferenceIdeal.Gen.dot_S4096x512_S512x4096_S4096x4096_1_0_0_1_n_n_wf

end Cert.Pre_near_apart.Knn

end
-- ==== Proof.Network.lean ====
/- The two halves of the kernel's search for the neighbours, as functions of a block's distances `s`: the sorting
   network over the 32 column chunks (`lv`, `car`) and the rounds that raise a lower bound (`flt`, `lbv`). Each printed
   part of the body that only computes is shown to hand on the values these name. -/
module

public import proofs.«01_k».proof.Proof.Gen.KernelIdeal.Frame
public import proofs.«01_k».proof.Proof.Gen.KernelIdeal.Skeleton

@[expose] public section

set_option maxRecDepth 16384

noncomputable section

namespace Cert.KernelIdeal.Knn

open Idealize.ShloMosaic Idealize.SL.Sem
open Cert.KernelIdeal.Gen

variable {F : FTy → Type} [FloatOps F]

/-- +∞ as the program writes it. -/
abbrev INF : F .f32 := Scalar.ofBits .f32 0x7F800000#32
/-- A chunk of +∞. -/
abbrev infB : FVec F S256x128 .f32 := broadcast S256x128 INF

/-- A block's distances have 32 chunks of 128 columns. -/
theorem slicesC (c : ℕ) (h : c < 32) : S256x4096.Slices ![0, 128 * c] S256x128 :=
  ⟨rfl, fun a => match a with
    | 0 => (by decide : 0 + 256 ≤ 256)
    | 1 => (by omega : 128 * c + 128 ≤ 4096)⟩

variable (s : FVec F S256x4096 .f32)

/-- Columns 128c … 128c + 127 of a block's distances. -/
def chunk (c : ℕ) : FVec F S256x128 .f32 :=
  if h : c < 32 then extractStridedSlice S256x128 ![0, 128 * c] s (slicesC c h) else infB

/-- What chunk `p` carries past the first `k` of the held levels `m`: the larger of each pair goes on. -/
def carry (m : ℕ → FVec F S256x128 .f32) (p : FVec F S256x128 .f32) : ℕ → FVec F S256x128 .f32
  | 0 => p
  | k + 1 => maximumf (m k) (carry m p k)

/-- The levels after `c` chunks: level `k` keeps the smaller of itself and what reaches it, and while fewer than five
    levels are held the last carry becomes a new one. -/
def lv : ℕ → ℕ → FVec F S256x128 .f32
  | 0, _ => infB
  | c + 1, k => bif Nat.blt k c then minimumf (lv c k) (carry (lv c) (chunk s c) k) else carry (lv c) (chunk s c) k

/-- What reaches level `k` while chunk `c` is inserted. -/
abbrev car (c k : ℕ) : FVec F S256x128 .f32 := carry (lv s c) (chunk s c) k

/-- The smallest of the first `n + 1` of a family, in the order the kernel pairs them. -/
def treeMin (f : ℕ → FVec F S256x128 .f32) : ℕ → FVec F S256x128 .f32
  | 0 => f 0
  | 1 => minimumf (f 0) (f 1)
  | 2 => minimumf (minimumf (f 0) (f 1)) (f 2)
  | 3 => minimumf (minimumf (f 0) (f 1)) (minimumf (f 2) (f 3))
  | _ => minimumf (minimumf (minimumf (f 0) (f 1)) (minimumf (f 2) (f 3))) (f 4)

/-- Level `k` where it exceeds the bound, +∞ elsewhere. -/
def fltOf (lb : FVec F S256x1 .f32) (k : ℕ) : FVec F S256x128 .f32 :=
  select (cmpf .ogt (lv s 32 k) (broadcastTo S256x128 lb broadcasts_S256x1_S256x128)) (lv s 32 k) infB

/-- Round `r`'s smallest value above the bound, by row. -/
def lbrOf (lb : FVec F S256x1 .f32) (r : ℕ) : FVec F S256 .f32 :=
  multiReduction .minimumf [1] S256 (treeMin (fltOf s lb) r) 0x7F800000#32 reduces_S256x128_S256 (.inl rfl) rfl

/-- The bound after `r` rounds. -/
def lbv : ℕ → FVec F S256x1 .f32
  | 0 => broadcast S256x1 (Scalar.ofBits .f32 0xFF800000#32)
  | r + 1 => shapeCast S256x1 (lbrOf s (lbv r) r) shapeCasts_S256_S256x1

abbrev lbr (r : ℕ) : FVec F S256 .f32 := lbrOf s (lbv s r) r
/-- The bound after `r` rounds beside every column. -/
abbrev lbB (r : ℕ) : FVec F S256x128 .f32 := broadcastTo S256x128 (lbv s r) broadcasts_S256x1_S256x128
/-- Where level `k` exceeds the bound. -/
abbrev abv (r k : ℕ) : IVec S256x128 1 := cmpf .ogt (lv s 32 k) (lbB s r)
abbrev flt (r k : ℕ) : FVec F S256x128 .f32 := fltOf s (lbv s r) k

variable (i : grid0.Coords) (arg1 : Memref sig .tc .vmem S256x512 .f32) (harg1 : arg1.IsWhole) (arg2 : Memref sig .tc .vmem S4096x512 .f32) (harg2 : arg2.IsWhole) (arg3 : Memref sig .tc .vmem S4096x1 .i32) (harg3 : arg3.IsWhole) (arg4 : Memref sig .tc .vmem S1x4096 .i32) (harg4 : arg4.IsWhole) (arg5 : Memref sig .tc .vmem S1x128 .f32) (harg5 : arg5.IsWhole) (arg6 : Memref sig .tc .vmem S1x4096 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)

theorem part4_eq : k0_part4 i arg1 harg1 arg2 harg2 arg3 harg3 arg4 harg4 arg5 harg5 arg6 harg6 arg7 harg7 arg8 harg8 arg9 harg9 s (chunk s 0) (chunk s 1) (chunk s 2) (chunk s 3) (chunk s 4) (chunk s 5) (chunk s 6) (chunk s 7) (chunk s 8)
    = pure ⟨(chunk s 20), (chunk s 21), (chunk s 22), (chunk s 23), (chunk s 24), (chunk s 25), (chunk s 26), (chunk s 27), (chunk s 28), (chunk s 29), (chunk s 30), (chunk s 31), (lv s 8 0), (lv s 8 1), (lv s 8 2), (lv s 8 3), (lv s 8 4), (lv s 9 0)⟩ := by
  rw [k0_part4_eq_skeleton]; rfl

theorem part5_eq : k0_part5 i arg1 harg1 arg2 harg2 arg3 harg3 arg4 harg4 arg5 harg5 arg6 harg6 arg7 harg7 arg8 harg8 arg9 harg9 (chunk s 8) (chunk s 9) (chunk s 10) (chunk s 11) (chunk s 12) (chunk s 13) (chunk s 14) (lv s 8 0) (lv s 8 1) (lv s 8 2) (lv s 8 3) (lv s 8 4) (lv s 9 0)
    = pure ⟨(lv s 14 3), (lv s 14 4), (lv s 15 0), (lv s 15 1), (lv s 15 2), (car s 14 3), (lv s 15 3)⟩ := by
  rw [k0_part5_eq_skeleton]; rfl

theorem part6_eq : k0_part6 i arg1 harg1 arg2 harg2 arg3 harg3 arg4 harg4 arg5 harg5 arg6 harg6 arg7 harg7 arg8 harg8 arg9 harg9 (chunk s 15) (chunk s 16) (chunk s 17) (chunk s 18) (chunk s 19) (chunk s 20) (chunk s 21) (lv s 14 3) (lv s 14 4) (lv s 15 0) (lv s 15 1) (lv s 15 2) (car s 14 3) (lv s 15 3)
    = pure ⟨(lv s 21 2), (lv s 21 3), (lv s 21 4), (lv s 22 0), (lv s 22 1), (car s 21 2)⟩ := by
  rw [k0_part6_eq_skeleton]; rfl

theorem part7_eq : k0_part7 i arg1 harg1 arg2 harg2 arg3 harg3 arg4 harg4 arg5 harg5 arg6 harg6 arg7 harg7 arg8 harg8 arg9 harg9 (chunk s 22) (chunk s 23) (chunk s 24) (chunk s 25) (chunk s 26) (chunk s 27) (chunk s 28) (lv s 21 2) (lv s 21 3) (lv s 21 4) (lv s 22 0) (lv s 22 1) (car s 21 2)
    = pure ⟨(lv s 28 0), (lv s 28 1), (lv s 28 2), (lv s 28 3), (lv s 28 4), (lv s 29 0)⟩ := by
  rw [k0_part7_eq_skeleton]; rfl

theorem part8_eq : k0_part8 i arg1 harg1 arg2 harg2 arg3 harg3 arg4 harg4 arg5 harg5 arg6 harg6 arg7 harg7 arg8 harg8 arg9 harg9 (chunk s 28) (chunk s 29) (chunk s 30) (chunk s 31) (lv s 28 0) (lv s 28 1) (lv s 28 2) (lv s 28 3) (lv s 28 4) (lv s 29 0)
    = pure ⟨(lv s 32 0), (lv s 32 1), (lv s 32 2), (lv s 32 3), (lv s 32 4), (lbv s 2), (lbB s 2)⟩ := by
  rw [k0_part8_eq_skeleton]; rfl

theorem part9_eq : k0_part9 i arg1 harg1 arg2 harg2 arg3 harg3 arg4 harg4 arg5 harg5 arg6 harg6 arg7 harg7 arg8 harg8 arg9 harg9 (lv s 32 0) (lv s 32 1) (lv s 32 2) (lv s 32 3) (lbv s 2) (lbB s 2)
    = pure ⟨(lbv s 4), (flt s 4 0), (flt s 4 1), (flt s 4 2)⟩ := by
  rw [k0_part9_eq_skeleton]; rfl

theorem part10_eq : k0_part10 i arg1 harg1 arg2 harg2 arg3 harg3 arg4 harg4 arg5 harg5 arg6 harg6 arg7 harg7 arg8 harg8 arg9 harg9 (lv s 32 0) (lv s 32 1) (lv s 32 2) (lv s 32 3) (lv s 32 4) (lbv s 4) (flt s 4 0) (flt s 4 1) (flt s 4 2)
    = pure ⟨(lbv s 6), (flt s 6 0), (flt s 6 1), (lbB s 6)⟩ := by
  rw [k0_part10_eq_skeleton]; rfl

theorem part11_eq : k0_part11 i arg1 harg1 arg2 harg2 arg3 harg3 arg4 harg4 arg5 harg5 arg6 harg6 arg7 harg7 arg8 harg8 arg9 harg9 (lv s 32 0) (lv s 32 1) (lv s 32 2) (lv s 32 3) (lv s 32 4) (lbv s 6) (flt s 6 0) (flt s 6 1) (lbB s 6)
    = pure ⟨(lbv s 8), (flt s 8 0), (abv s 8 1)⟩ := by
  rw [k0_part11_eq_skeleton]; rfl

theorem part12_eq : k0_part12 i arg1 harg1 arg2 harg2 arg3 harg3 arg4 harg4 arg5 harg5 arg6 harg6 arg7 harg7 arg8 harg8 arg9 harg9 (lv s 32 0) (lv s 32 1) (lv s 32 2) (lv s 32 3) (lv s 32 4) (lbv s 8) (flt s 8 0) (abv s 8 1)
    = pure ⟨(lbv s 10), (abv s 10 0), INF⟩ := by
  rw [k0_part12_eq_skeleton]; rfl

theorem part13_eq : k0_part13 i arg1 harg1 arg2 harg2 arg3 harg3 arg4 harg4 arg5 harg5 arg6 harg6 arg7 harg7 arg8 harg8 arg9 harg9 (lv s 32 0) (lv s 32 1) (lv s 32 2) (lv s 32 3) (lv s 32 4) (lbv s 10) (abv s 10 0) INF
    = pure (lbr s 11) := by
  rw [k0_part13_eq_skeleton]; rfl

theorem part14_eq : k0_part14 i arg1 harg1 arg2 harg2 arg3 harg3 arg4 harg4 arg5 harg5 arg6 harg6 arg7 harg7 arg8 harg8 arg9 harg9 (lv s 32 0) (lv s 32 1) (lv s 32 2) (lv s 32 3) (lv s 32 4) (lbr s 11)
    = pure ⟨(flt s 13 4), (minimumf (flt s 13 0) (flt s 13 1)), (minimumf (flt s 13 2) (flt s 13 3))⟩ := by
  rw [k0_part14_eq_skeleton]; rfl

theorem part15_eq : k0_part15 i arg1 harg1 arg2 harg2 arg3 harg3 arg4 harg4 arg5 harg5 arg6 harg6 arg7 harg7 arg8 harg8 arg9 harg9 (lv s 32 0) (lv s 32 1) (lv s 32 2) (lv s 32 3) (lv s 32 4) (flt s 13 4) (minimumf (flt s 13 0) (flt s 13 1)) (minimumf (flt s 13 2) (flt s 13 3))
    = pure ⟨(flt s 15 0), (flt s 15 1), (flt s 15 2), (flt s 15 3), (abv s 15 4), INF⟩ := by
  rw [k0_part15_eq_skeleton]; rfl

theorem part16_eq : k0_part16 i arg1 harg1 arg2 harg2 arg3 harg3 arg4 harg4 arg5 harg5 arg6 harg6 arg7 harg7 arg8 harg8 arg9 harg9 (lv s 32 0) (lv s 32 1) (lv s 32 2) (lv s 32 3) (lv s 32 4) (flt s 15 0) (flt s 15 1) (flt s 15 2) (flt s 15 3) (abv s 15 4) INF
    = pure ⟨(lbv s 17), (flt s 17 0), (flt s 17 1), (flt s 17 2), (abv s 17 3), infB⟩ := by
  rw [k0_part16_eq_skeleton]; rfl

end Cert.KernelIdeal.Knn
-- ==== Proof.Body.lean ====
/- The kernel's body as one sequence of loads and stores around one value (`blkOut`): every part that only computes is
   run, and the branch that falls back to the full search becomes a choice between two bounds (`bound`). -/
module

public import proofs.«01_k».proof.Proof.Network

@[expose] public section

set_option maxRecDepth 16384

noncomputable section

namespace Cert.KernelIdeal.Knn

open Idealize.ShloMosaic Idealize.SL.Sem
open Cert.KernelIdeal.Gen

variable {F : FTy → Type} [FloatOps F]

/-! ## The full search, and the branch -/

/-- A block's distances with the point itself put at +∞. -/
def offDiag (s : FVec F S256x4096 .f32) (eye : IVec S256x4096 1) : FVec F S256x4096 .f32 :=
  select eye (broadcast S256x4096 INF) s

/-- The distances above a bound, +∞ elsewhere. -/
def aboveBd (so : FVec F S256x4096 .f32) (lb : FVec F S256x1 .f32) : FVec F S256x4096 .f32 :=
  select (cmpf .ogt so (broadcastTo S256x4096 lb broadcasts_S256x1_S256x4096)) so (broadcast S256x4096 INF)

/-- The full search's bound after `r` rounds: each takes the smallest distance above the one before. -/
def fullv (so : FVec F S256x4096 .f32) : ℕ → FVec F S256x1 .f32
  | 0 => broadcast S256x1 (Scalar.ofBits .f32 0xFF800000#32)
  | r + 1 => shapeCast S256x1 (multiReduction .minimumf [1] S256 (aboveBd so (fullv so r)) 0x7F800000#32
      reduces_S256x4096_S256 (.inl rfl) rfl) shapeCasts_S256_S256x1

/-- Does any row have its fifth level below the bound found? (1.0 if so, else 0.0.) -/
def overflow (s : FVec F S256x4096 .f32) : F .f32 :=
  extractAt ![0, 0, 0] (shapeCast S1x1x1 (multiReduction .maximumf [1, 2] S1
    (shapeCast S1x256x128 (select (cmpf .olt (lv s 32 4) (broadcastTo S256x128 (lbv s 18) broadcasts_S256x1_S256x128))
      (broadcast S256x128 (Scalar.ofBits .f32 0x3F800000#32)) (broadcast S256x128 (Scalar.ofBits .f32 0x00000000#32)))
      shapeCasts_S256x128_S1x256x128) 0xFF800000#32 reduces_S1x256x128_S1 (.inl rfl) rfl) shapeCasts_S1_S1x1x1) inpos_S1x1x1_p0_0_0

/-- The branch's condition. -/
def overflows (s : FVec F S256x4096 .f32) : BitVec 1 :=
  Scalar.cmpi .ne (Scalar.extui (Scalar.cmpf .ogt (overflow s) (Scalar.ofBits .f32 0x00000000#32)) : BitVec 32) 0#32

/-- The bound the body goes on with: the full search's if the branch is taken, the network's if not. -/
def bound (s : FVec F S256x4096 .f32) (eye : IVec S256x4096 1) : FVec F S256x1 .f32 :=
  if overflows s = 1#1 then fullv (offDiag s eye) 17 else lbv s 18

theorem pay3_eq (s : FVec F S256x4096 .f32) (eye : IVec S256x4096 1) : k0_pay3 s eye INF = offDiag s eye := rfl
theorem pay4_eq (s : FVec F S256x4096 .f32) (eye : IVec S256x4096 1) : k0_pay4 s eye INF = fullv (offDiag s eye) 8 := rfl
theorem pay5_eq (so : FVec F S256x4096 .f32) : k0_pay5 INF so (fullv so 8) = aboveBd so (fullv so 16) := rfl
theorem pay296_eq (so : FVec F S256x4096 .f32) : k0_pay296 (aboveBd so (fullv so 16)) = fullv so 17 := rfl
theorem pay294_eq (s : FVec F S256x4096 .f32) :
    k0_pay294 (lv s 32 3) (lv s 32 4) (lbv s 17) (flt s 17 0) (flt s 17 1) (flt s 17 2) (abv s 17 3) infB = lbv s 18 := rfl
theorem pay295_eq (s : FVec F S256x4096 .f32) :
    k0_pay295 (lv s 32 3) (lv s 32 4) (lbv s 17) (flt s 17 0) (flt s 17 1) (flt s 17 2) (abv s 17 3) infB = overflow s := by
  unfold k0_pay295; rw [pay294_eq]; rfl

/-! ## What a block adds to the output -/

/-- The three sums of a block of 256 rows, in lanes 0, 1 and 2, added to what the output held. -/
def blkOut (i : grid0.Coords) (v0 : Vec F S4096x512 .f32) (v5 : Vec F S256x512 .f32) (v14 : Vec F S1x4096 .f32)
    (v763 : Vec F S1x4096 .i32) (v767 v783 : Vec F S256x1 .i32) (v790 v795 v800 : Vec F S1x64 .f32)
    (v880 : Vec F S1x128 .f32) : FVec F S1x128 .f32 :=
  let s := k0_pay15 v0 v5 v14
  let ex := k0_pay297 (k0_pay14 v5) s
  let eb := k0_pay298 (k0_pay14 v5) s (k0_pay16 i) (bound s (k0_pay16 i))
  let same := k0_pay299 v763 v767
  let v1 := iota .tc S1x64 32 [1] iota_S1x64_d1_w32
  let v17 := iota .tc S256x4096 32 [1] iota_S256x4096_d1_w32
  let cnt := k0_pay304 v1 v783 v800
  let fp := k0_pay305 (BitVec.ofNat 32 (i 0).val) v1 v783 v790 v795
  let ok := k0_pay306 (BitVec.ofNat 32 (i 0).val) v1 v783 v790 v795
  k0_pay2 (k0_pay309 v17 ex (k0_pay300 eb same) (k0_pay301 eb same) (k0_pay302 eb same) cnt fp ok)
    (k0_pay310 cnt)
    (k0_pay311 v17 ex (k0_pay300 eb same) (k0_pay301 eb same) (k0_pay302 eb same) cnt fp ok) v880

theorem slice0 (v0 : Vec F S4096x512 .f32) (v5 : Vec F S256x512 .f32) (v14 : Vec F S1x4096 .f32) : k0_pay17 v0 v5 v14 = chunk (k0_pay15 v0 v5 v14) 0 := rfl
theorem slice1 (v0 : Vec F S4096x512 .f32) (v5 : Vec F S256x512 .f32) (v14 : Vec F S1x4096 .f32) : k0_pay18 v0 v5 v14 = chunk (k0_pay15 v0 v5 v14) 1 := rfl
theorem slice2 (v0 : Vec F S4096x512 .f32) (v5 : Vec F S256x512 .f32) (v14 : Vec F S1x4096 .f32) : k0_pay19 v0 v5 v14 = chunk (k0_pay15 v0 v5 v14) 2 := rfl
theorem slice3 (v0 : Vec F S4096x512 .f32) (v5 : Vec F S256x512 .f32) (v14 : Vec F S1x4096 .f32) : k0_pay20 v0 v5 v14 = chunk (k0_pay15 v0 v5 v14) 3 := rfl
theorem slice4 (v0 : Vec F S4096x512 .f32) (v5 : Vec F S256x512 .f32) (v14 : Vec F S1x4096 .f32) : k0_pay21 v0 v5 v14 = chunk (k0_pay15 v0 v5 v14) 4 := rfl
theorem slice5 (v0 : Vec F S4096x512 .f32) (v5 : Vec F S256x512 .f32) (v14 : Vec F S1x4096 .f32) : k0_pay22 v0 v5 v14 = chunk (k0_pay15 v0 v5 v14) 5 := rfl
theorem slice6 (v0 : Vec F S4096x512 .f32) (v5 : Vec F S256x512 .f32) (v14 : Vec F S1x4096 .f32) : k0_pay23 v0 v5 v14 = chunk (k0_pay15 v0 v5 v14) 6 := rfl
theorem slice7 (v0 : Vec F S4096x512 .f32) (v5 : Vec F S256x512 .f32) (v14 : Vec F S1x4096 .f32) : k0_pay24 v0 v5 v14 = chunk (k0_pay15 v0 v5 v14) 7 := rfl
theorem slice8 (v0 : Vec F S4096x512 .f32) (v5 : Vec F S256x512 .f32) (v14 : Vec F S1x4096 .f32) : k0_pay25 v0 v5 v14 = chunk (k0_pay15 v0 v5 v14) 8 := rfl
theorem slice9 (v0 : Vec F S4096x512 .f32) (v5 : Vec F S256x512 .f32) (v14 : Vec F S1x4096 .f32) : k0_pay26 v0 v5 v14 = chunk (k0_pay15 v0 v5 v14) 9 := rfl
theorem slice10 (v0 : Vec F S4096x512 .f32) (v5 : Vec F S256x512 .f32) (v14 : Vec F S1x4096 .f32) : k0_pay27 v0 v5 v14 = chunk (k0_pay15 v0 v5 v14) 10 := rfl
theorem slice11 (v0 : Vec F S4096x512 .f32) (v5 : Vec F S256x512 .f32) (v14 : Vec F S1x4096 .f32) : k0_pay28 v0 v5 v14 = chunk (k0_pay15 v0 v5 v14) 11 := rfl
theorem slice12 (v0 : Vec F S4096x512 .f32) (v5 : Vec F S256x512 .f32) (v14 : Vec F S1x4096 .f32) : k0_pay29 v0 v5 v14 = chunk (k0_pay15 v0 v5 v14) 12 := rfl
theorem slice13 (v0 : Vec F S4096x512 .f32) (v5 : Vec F S256x512 .f32) (v14 : Vec F S1x4096 .f32) : k0_pay30 v0 v5 v14 = chunk (k0_pay15 v0 v5 v14) 13 := rfl
theorem slice14 (v0 : Vec F S4096x512 .f32) (v5 : Vec F S256x512 .f32) (v14 : Vec F S1x4096 .f32) : k0_pay31 v0 v5 v14 = chunk (k0_pay15 v0 v5 v14) 14 := rfl
theorem slice15 (v0 : Vec F S4096x512 .f32) (v5 : Vec F S256x512 .f32) (v14 : Vec F S1x4096 .f32) : k0_pay32 v0 v5 v14 = chunk (k0_pay15 v0 v5 v14) 15 := rfl
theorem slice16 (v0 : Vec F S4096x512 .f32) (v5 : Vec F S256x512 .f32) (v14 : Vec F S1x4096 .f32) : k0_pay33 v0 v5 v14 = chunk (k0_pay15 v0 v5 v14) 16 := rfl
theorem slice17 (v0 : Vec F S4096x512 .f32) (v5 : Vec F S256x512 .f32) (v14 : Vec F S1x4096 .f32) : k0_pay34 v0 v5 v14 = chunk (k0_pay15 v0 v5 v14) 17 := rfl
theorem slice18 (v0 : Vec F S4096x512 .f32) (v5 : Vec F S256x512 .f32) (v14 : Vec F S1x4096 .f32) : k0_pay35 v0 v5 v14 = chunk (k0_pay15 v0 v5 v14) 18 := rfl
theorem slice19 (v0 : Vec F S4096x512 .f32) (v5 : Vec F S256x512 .f32) (v14 : Vec F S1x4096 .f32) : k0_pay36 v0 v5 v14 = chunk (k0_pay15 v0 v5 v14) 19 := rfl

section
variable (i : grid0.Coords) (arg1 : Memref sig .tc .vmem S256x512 .f32) (harg1 : arg1.IsWhole) (arg2 : Memref sig .tc .vmem S4096x512 .f32) (harg2 : arg2.IsWhole) (arg3 : Memref sig .tc .vmem S4096x1 .i32) (harg3 : arg3.IsWhole) (arg4 : Memref sig .tc .vmem S1x4096 .i32) (harg4 : arg4.IsWhole) (arg5 : Memref sig .tc .vmem S1x128 .f32) (harg5 : arg5.IsWhole) (arg6 : Memref sig .tc .vmem S1x4096 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)

theorem part17_eq (arg0 : BitVec 32) (v13 : FVec F S256x1 .f32) (s : FVec F S256x4096 .f32) (eye : IVec S256x4096 1) :
    k0_part17 i arg1 harg1 arg2 harg2 arg3 harg3 arg4 harg4 arg5 harg5 arg6 harg6 arg7 harg7 arg8 harg8 arg9 harg9 arg0 v13 s eye
      (lv s 32 3) (lv s 32 4) (lbv s 17) (flt s 17 0) (flt s 17 1) (flt s 17 2) (abv s 17 3) infB
    = (do
      let v763 : Vec F S1x4096 .i32 ← Prog.lift (.load arg4 (Rect.unit (s := S1x4096) ![0, 0] S1x4096.size inb_S1x4096_S1x4096_0_0).toLoadRect (View.loadsAt_vmem h_S1x4096))
      let v767 : Vec F S256x1 .i32 ← Prog.lift (.load arg3 (Rect.unit (s := S4096x1) (k0_off1 i) S256x1.size (k0_off1_inb i)).toLoadRect (View.loadsAt_vmem h_S256x1))
      pure ⟨k0_pay297 v13 s, k0_pay298 v13 s eye (bound s eye), k0_pay299 v763 v767⟩) := by
  rw [k0_part17_eq_skeleton]
  unfold k0_part17_skel bound
  rw [pay295_eq, pay294_eq]
  by_cases h : overflows s = 1#1
  · rw [if_pos h]
    have h' : Scalar.cmpi .ne (Scalar.extui (Scalar.cmpf .ogt (overflow s) (Scalar.ofBits .f32 0x00000000#32)) : BitVec 32) 0#32 = 1#1 := h
    simp only [h', if_true, k0_part1_eq_skeleton, k0_part2_eq_skeleton, k0_part1_skel, k0_part2_skel, pure_bind, bind_assoc,
      pay3_eq, pay4_eq, pay5_eq, pay296_eq]
  · rw [if_neg h]
    have h' : ¬ Scalar.cmpi .ne (Scalar.extui (Scalar.cmpf .ogt (overflow s) (Scalar.ofBits .f32 0x00000000#32)) : BitVec 32) 0#32 = 1#1 := h
    simp only [h', if_false, pure_bind, bind_assoc]

/-- The body after the distances' operands are loaded: nothing but loads until the output's stores. -/
def rest (v0 : Vec F S4096x512 .f32) : Prog (TpuEff nD τ sig (Elt F) Λ₀ .tc) PUnit := do
  let v5 : Vec F S256x512 .f32 ← Prog.lift (.load arg1 (Rect.unit (s := S256x512) ![0, 0] S256x512.size inb_S256x512_S256x512_0_0).toLoadRect (View.loadsAt_vmem h_S256x512))
  let v14 : Vec F S1x4096 .f32 ← Prog.lift (.load arg6 (Rect.unit (s := S1x4096) ![0, 0] S1x4096.size inb_S1x4096_S1x4096_0_0).toLoadRect (View.loadsAt_vmem h_S1x4096))
  let v763 : Vec F S1x4096 .i32 ← Prog.lift (.load arg4 (Rect.unit (s := S1x4096) ![0, 0] S1x4096.size inb_S1x4096_S1x4096_0_0).toLoadRect (View.loadsAt_vmem h_S1x4096))
  let v767 : Vec F S256x1 .i32 ← Prog.lift (.load arg3 (Rect.unit (s := S4096x1) (k0_off1 i) S256x1.size (k0_off1_inb i)).toLoadRect (View.loadsAt_vmem h_S256x1))
  let v783 : Vec F S256x1 .i32 ← Prog.lift (.load arg3 (Rect.unit (s := S4096x1) (k0_off1 i) S256x1.size (k0_off1_inb i)).toLoadRect (View.loadsAt_vmem h_S256x1))
  let v790 : Vec F S1x64 .f32 ← Prog.lift (.load arg7 (Rect.unit (s := S1x64) ![0, 0] S1x64.size inb_S1x64_S1x64_0_0).toLoadRect (View.loadsAt_vmem h_S1x64))
  let v795 : Vec F S1x64 .f32 ← Prog.lift (.load arg8 (Rect.unit (s := S1x64) ![0, 0] S1x64.size inb_S1x64_S1x64_0_0).toLoadRect (View.loadsAt_vmem h_S1x64))
  let v800 : Vec F S1x64 .f32 ← Prog.lift (.load arg9 (Rect.unit (s := S1x64) ![0, 0] S1x64.size inb_S1x64_S1x64_0_0).toLoadRect (View.loadsAt_vmem h_S1x64))
  if k0_h3 : Scalar.cmpi .ne (Scalar.extui (Scalar.cmpi .eq (BitVec.ofNat 32 (i 0).val) 0#32) : BitVec 32) 0#32 = 1#1 then do
    let v885 : Vec F S1x128 .f32 ← Prog.lift (.load arg5 (Rect.unit (s := S1x128) ![0, 0] S1x128.size inb_S1x128_S1x128_0_0).toLoadRect (View.loadsAt_vmem h_S1x128))
    Prog.lift (.store arg5 (Rect.unit (s := S1x128) ![0, 0] S1x128.size inb_S1x128_S1x128_0_0) (k0_pay1 (F := F)) Finset.univ (View.stores_vmem_bits_univ h_S1x128 rfl) (.inl rfl))
    pure ⟨⟩
  else do
    pure ⟨⟩
  let v880 : Vec F S1x128 .f32 ← Prog.lift (.load arg5 (Rect.unit (s := S1x128) ![0, 0] S1x128.size inb_S1x128_S1x128_0_0).toLoadRect (View.loadsAt_vmem h_S1x128))
  let v883 : Vec F S1x128 .f32 ← Prog.lift (.load arg5 (Rect.unit (s := S1x128) ![0, 0] S1x128.size inb_S1x128_S1x128_0_0).toLoadRect (View.loadsAt_vmem h_S1x128))
  Prog.lift (.store arg5 (Rect.unit (s := S1x128) ![0, 0] S1x128.size inb_S1x128_S1x128_0_0) (blkOut i v0 v5 v14 v763 v767 v783 v790 v795 v800 v880) Finset.univ (View.stores_vmem_bits_univ h_S1x128 rfl) (.inl rfl))
  pure ⟨⟩

/-- The body. -/
def body : Prog (TpuEff nD τ sig (Elt F) Λ₀ .tc) PUnit := do
  let v0 : Vec F S4096x512 .f32 ← Prog.lift (.load arg2 (Rect.unit (s := S4096x512) ![0, 0] S4096x512.size inb_S4096x512_S4096x512_0_0).toLoadRect (View.loadsAt_vmem h_S4096x512))
  if k0_h1 : Scalar.cmpi .ne (Scalar.extui (Scalar.cmpi .eq (BitVec.ofNat 32 (i 0).val) 0#32) : BitVec 32) 0#32 = 1#1 then do
    let v887 : Vec F S1x4096 .f32 ← Prog.lift (.load arg6 (Rect.unit (s := S1x4096) ![0, 0] S1x4096.size inb_S1x4096_S1x4096_0_0).toLoadRect (View.loadsAt_vmem h_S1x4096))
    Prog.lift (.store arg6 (Rect.unit (s := S1x4096) ![0, 0] S1x4096.size inb_S1x4096_S1x4096_0_0) (k0_pay6 v0) Finset.univ (View.stores_vmem_bits_univ h_S1x4096 rfl) (.inl rfl))
    let v890 : Vec F S4096x1 .i32 ← Prog.lift (.load arg3 (Rect.unit (s := S4096x1) ![0, 0] S4096x1.size inb_S4096x1_S4096x1_0_0).toLoadRect (View.loadsAt_vmem h_S4096x1))
    let v905 : Vec F S1x64 .f32 ← Prog.lift (.load arg7 (Rect.unit (s := S1x64) ![0, 0] S1x64.size inb_S1x64_S1x64_0_0).toLoadRect (View.loadsAt_vmem h_S1x64))
    Prog.lift (.store arg7 (Rect.unit (s := S1x64) ![0, 0] S1x64.size inb_S1x64_S1x64_0_0) (k0_pay11 v890) Finset.univ (View.stores_vmem_bits_univ h_S1x64 rfl) (.inl rfl))
    let v915 : Vec F S1x64 .f32 ← Prog.lift (.load arg8 (Rect.unit (s := S1x64) ![0, 0] S1x64.size inb_S1x64_S1x64_0_0).toLoadRect (View.loadsAt_vmem h_S1x64))
    Prog.lift (.store arg8 (Rect.unit (s := S1x64) ![0, 0] S1x64.size inb_S1x64_S1x64_0_0) (k0_pay12 v890) Finset.univ (View.stores_vmem_bits_univ h_S1x64 rfl) (.inl rfl))
    let v920 : Vec F S1x64 .f32 ← Prog.lift (.load arg9 (Rect.unit (s := S1x64) ![0, 0] S1x64.size inb_S1x64_S1x64_0_0).toLoadRect (View.loadsAt_vmem h_S1x64))
    Prog.lift (.store arg9 (Rect.unit (s := S1x64) ![0, 0] S1x64.size inb_S1x64_S1x64_0_0) (k0_pay13 v890) Finset.univ (View.stores_vmem_bits_univ h_S1x64 rfl) (.inl rfl))
    pure ⟨⟩
  else do
    pure ⟨⟩
  rest i arg1 arg3 arg4 arg5 arg6 arg7 arg8 arg9 v0

/-- The printed body is that sequence. -/
theorem body_eq : cc0__knn_softmax_block (F := F) i arg1 harg1 arg2 harg2 arg3 harg3 arg4 harg4 arg5 harg5 arg6 harg6 arg7 harg7 arg8 harg8 arg9 harg9 = body i arg1 arg2 arg3 arg4 arg5 arg6 arg7 arg8 arg9 := by
  rw [cc0__knn_softmax_block_eq_skeleton]
  unfold cc0__knn_softmax_block_skel body
  rw [k0_part3_eq_skeleton]
  unfold k0_part3_skel rest
  simp only [bind_assoc]
  refine bind_congr fun v0 => ?_
  by_cases h : Scalar.cmpi .ne (Scalar.extui (Scalar.cmpi .eq (BitVec.ofNat 32 (i 0).val) 0#32) : BitVec 32) 0#32 = 1#1
  · simp only [dif_pos h, bind_assoc, pure_bind]
    simp only [slice0, slice1, slice2, slice3, slice4, slice5, slice6, slice7, slice8, slice9, slice10, slice11, slice12, slice13, slice14,
      slice15, slice16, slice17, slice18, slice19, part4_eq, part5_eq, part6_eq, part7_eq, part8_eq, part9_eq, part10_eq, part11_eq,
      part12_eq, part13_eq, part14_eq, part15_eq, part16_eq, part17_eq, k0_part18_eq_skeleton, k0_part18_skel, k0_part19_eq_skeleton,
      k0_part19_skel, bind_assoc, pure_bind]
    rfl
  · simp only [dif_neg h, bind_assoc, pure_bind]
    simp only [slice0, slice1, slice2, slice3, slice4, slice5, slice6, slice7, slice8, slice9, slice10, slice11, slice12, slice13, slice14,
      slice15, slice16, slice17, slice18, slice19, part4_eq, part5_eq, part6_eq, part7_eq, part8_eq, part9_eq, part10_eq, part11_eq,
      part12_eq, part13_eq, part14_eq, part15_eq, part16_eq, part17_eq, k0_part18_eq_skeleton, k0_part18_skel, k0_part19_eq_skeleton,
      k0_part19_skel, bind_assoc, pure_bind]
    rfl
end

end Cert.KernelIdeal.Knn
-- ==== Proof.Run.lean ====
/- What one run of the kernel's body does to its buffers, at the first point and at a later one. -/
module

public import proofs.«01_k».proof.Proof.Body
public import Idealize.ShloMosaic.Lib.VecWindow

@[expose] public section

set_option maxRecDepth 16384

noncomputable section

namespace Cert.KernelIdeal.Knn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid coordinate is zero: the branch that fills the tables and clears the accumulator. -/
abbrev First (i : grid0.Coords) : Prop :=
  Scalar.cmpi .ne (Scalar.extui (Scalar.cmpi .eq (BitVec.ofNat 32 (i 0).val) 0#32) : BitVec 32) 0#32 = 1#1

/-- The point's own rows of the column of labels. -/
def ownRows (i : grid0.Coords) (x2 : Vec F S4096x1 .i32) : Vec F S256x1 .i32 :=
  VecWindow.window x2 (k0_off1 i) S256x1.size (k0_off1_inb i)

/-- What one point adds to the accumulator, from the blocks it is given and the tables. -/
def step (i : grid0.Coords) (x0 : Vec F S256x512 .f32) (x1 : Vec F S4096x512 .f32) (x2 : Vec F S4096x1 .i32) (x3 : Vec F S1x4096 .i32)
    (xs0 : Vec F S1x4096 .f32) (xs1 xs2 xs3 : Vec F S1x64 .f32) (acc : Vec F S1x128 .f32) : Vec F S1x128 .f32 :=
  blkOut i x1 x0 xs0 x3 (ownRows i x2) (ownRows i x2) xs1 xs2 xs3 acc

/-- A load of the point's own rows. -/
theorem readAt_rows (v : View sig .tc .vmem S4096x1 .i32) (f : v.ty.Contents (Elt F)) (i : grid0.Coords) :
    v.readAt (Elt F) (Rect.unit (s := S4096x1) (k0_off1 i) S256x1.size (k0_off1_inb i)).toLoadRect f = ownRows i (v.read (Elt F) f) := rfl

/-- A load of a whole buffer of known contents. -/
theorem loaded {s : Shape} {e : EltTy} {κ : Kind} {sp : Space} {M : Memref sig κ sp s e} (h : M.IsWhole) (x : s.Idx → Elt F e)
    {off : Fin s.rank → ℕ} (inb : ∀ a, off a + s.size a ≤ s.size a) :
    M.view.readAt (Elt F) (Rect.unit off s.size inb).toLoadRect (h.unread x) = x :=
  (View.readAt_full _ _ inb).trans (h.read_unread x)

/-- A load of the point's own rows from known contents. -/
theorem loaded_rows {M : Memref sig .tc .vmem S4096x1 .i32} (h : M.IsWhole) (x : Vec F S4096x1 .i32) (i : grid0.Coords) :
    M.view.readAt (Elt F) (Rect.unit (s := S4096x1) (k0_off1 i) S256x1.size (k0_off1_inb i)).toLoadRect (h.unread x) = ownRows i x :=
  (readAt_rows _ _ i).trans (congrArg (ownRows i) (h.read_unread x))

/-- The accumulator's new contents, from what each load read. -/
theorem step_of (i : grid0.Coords) {x0 v5 : Vec F S256x512 .f32} {x1 v0 : Vec F S4096x512 .f32} {x2 : Vec F S4096x1 .i32}
    {x3 v763 : Vec F S1x4096 .i32} {xs0 v14 : Vec F S1x4096 .f32} {xs1 xs2 xs3 v790 v795 v800 : Vec F S1x64 .f32} {acc v880 : Vec F S1x128 .f32}
    {v767 v783 : Vec F S256x1 .i32} (h0 : v0 = x1) (h5 : v5 = x0) (h14 : v14 = xs0) (h763 : v763 = x3) (h767 : v767 = ownRows i x2)
    (h783 : v783 = ownRows i x2) (h790 : v790 = xs1) (h795 : v795 = xs2) (h800 : v800 = xs3) (h880 : v880 = acc) :
    blkOut i v0 v5 v14 v763 v767 v783 v790 v795 v800 v880 = step i x0 x1 x2 x3 xs0 xs1 xs2 xs3 acc := by
  subst h0 h5 h14 h763 h767 h783 h790 h795 h800 h880; rfl

/-- A later point: the tables are read and kept, the accumulator grows by the point's share. -/
theorem run_later (c : Dev nD) (i : grid0.Coords) (arg1 : Memref sig .tc .vmem S256x512 .f32) (harg1 : arg1.IsWhole) (arg2 : Memref sig .tc .vmem S4096x512 .f32) (harg2 : arg2.IsWhole) (arg3 : Memref sig .tc .vmem S4096x1 .i32) (harg3 : arg3.IsWhole) (arg4 : Memref sig .tc .vmem S1x4096 .i32) (harg4 : arg4.IsWhole) (arg5 : Memref sig .tc .vmem S1x128 .f32) (harg5 : arg5.IsWhole) (arg6 : Memref sig .tc .vmem S1x4096 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc : ¬First i)
    (x0 : Vec F S256x512 .f32) (x1 : Vec F S4096x512 .f32) (x2 : Vec F S4096x1 .i32) (x3 : Vec F S1x4096 .i32) (acc : Vec F S1x128 .f32) (xs0 : Vec F S1x4096 .f32) (xs1 xs2 xs3 : Vec F S1x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare acc ∗ owns (c : Thread nD τ) arg6 fullShare xs0 ∗ owns (c : Thread nD τ) arg7 fullShare xs1 ∗ owns (c : Thread nD τ) arg8 fullShare xs2 ∗ owns (c : Thread nD τ) arg9 fullShare xs3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (step i x0 x1 x2 x3 xs0 xs1 xs2 xs3 acc) ∗ owns (c : Thread nD τ) arg6 fullShare xs0 ∗ owns (c : Thread nD τ) arg7 fullShare xs1 ∗ owns (c : Thread nD τ) arg8 fullShare xs2 ∗ owns (c : Thread nD τ) arg9 fullShare xs3) -∗ K ⟨⟩))
      ⊢ wp frame (wpE (defs₀ (F := F)) Variants.none c none) E (cc0__knn_softmax_block i arg1 harg1 arg2 harg2 arg3 harg3 arg4 harg4 arg5 harg5 arg6 harg6 arg7 harg7 arg8 harg8 arg9 harg9) K := by
  rw [body_eq]
  unfold body rest owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_full _ _ _ _ _).trans ?_
    exact step_of i (loaded harg2 _ _) (loaded harg1 _ _) (loaded harg6 _ _) (loaded harg4 _ _) (loaded_rows harg3 _ i) (loaded_rows harg3 _ i) (loaded harg7 _ _) (loaded harg8 _ _) (loaded harg9 _ _) (loaded harg5 _ _)
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

/-- The first point: the tables are filled and the accumulator starts from zero. -/
theorem run_first (c : Dev nD) (i : grid0.Coords) (arg1 : Memref sig .tc .vmem S256x512 .f32) (harg1 : arg1.IsWhole) (arg2 : Memref sig .tc .vmem S4096x512 .f32) (harg2 : arg2.IsWhole) (arg3 : Memref sig .tc .vmem S4096x1 .i32) (harg3 : arg3.IsWhole) (arg4 : Memref sig .tc .vmem S1x4096 .i32) (harg4 : arg4.IsWhole) (arg5 : Memref sig .tc .vmem S1x128 .f32) (harg5 : arg5.IsWhole) (arg6 : Memref sig .tc .vmem S1x4096 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc : First i)
    (x0 : Vec F S256x512 .f32) (x1 : Vec F S4096x512 .f32) (x2 : Vec F S4096x1 .i32) (x3 : Vec F S1x4096 .i32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (step i x0 x1 x2 x3 (k0_pay6 x1) (k0_pay11 x2) (k0_pay12 x2) (k0_pay13 x2) (k0_pay1 (F := F))) ∗ owns (c : Thread nD τ) arg6 fullShare (k0_pay6 x1) ∗ owns (c : Thread nD τ) arg7 fullShare (k0_pay11 x2) ∗ owns (c : Thread nD τ) arg8 fullShare (k0_pay12 x2) ∗ owns (c : Thread nD τ) arg9 fullShare (k0_pay13 x2)) -∗ K ⟨⟩))
      ⊢ wp frame (wpE (defs₀ (F := F)) Variants.none c none) E (cc0__knn_softmax_block i arg1 harg1 arg2 harg2 arg3 harg3 arg4 harg4 arg5 harg5 arg6 harg6 arg7 harg7 arg8 harg8 arg9 harg9) K := by
  rw [body_eq]
  unfold body rest owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, Hk⟩
  obtain rfl := harg1.eq_unread hf1; obtain rfl := harg2.eq_unread hf2; obtain rfl := harg3.eq_unread hf3; obtain rfl := harg4.eq_unread hf4
  sl_exec (disch := sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_full _ _ _ _ _).trans ?_
    refine step_of i (loaded harg2 _ _) (loaded harg1 _ _) ?_ (loaded harg4 _ _) (loaded_rows harg3 _ i) (loaded_rows harg3 _ i) ?_ ?_ ?_ ?_
    · unfold run_first.sl.v14 run_first.sl.H6_1; rw [View.readCov_full, loaded harg2]
    · unfold run_first.sl.v790 run_first.sl.H7_1; rw [View.readCov_full, loaded harg3]
    · unfold run_first.sl.v795 run_first.sl.H8_1; rw [View.readCov_full, loaded harg3]
    · unfold run_first.sl.v800 run_first.sl.H9_1; rw [View.readCov_full, loaded harg3]
    · unfold run_first.sl.v880 run_first.sl.H5_1; rw [View.readCov_full]
  isplitl [H6]
  · iexists _; isplitr
    swap; · iexact H6
    ipureintro
    unfold run_first.sl.H6_1
    rw [View.read_writes_full, View.readAt_full, harg2.read_unread]
  isplitl [H7]
  · iexists _; isplitr
    swap; · iexact H7
    ipureintro
    unfold run_first.sl.H7_1
    rw [View.read_writes_full, View.readAt_full, harg3.read_unread]
  isplitl [H8]
  · iexists _; isplitr
    swap; · iexact H8
    ipureintro
    unfold run_first.sl.H8_1
    rw [View.read_writes_full, View.readAt_full, harg3.read_unread]
  iexists _; isplitr
  swap; · iexact H9
  ipureintro
  unfold run_first.sl.H9_1
  rw [View.read_writes_full, View.readAt_full, harg3.read_unread]

end Cert.KernelIdeal.Knn
-- ==== Proof.Sound.lean ====
/- The body at every point of the pipeline, and the whole run of the kernel. -/
module

public import proofs.«01_k».proof.Proof.Run
public import Idealize.ShloMosaic.Lib.Claim

@[expose] public section

set_option maxRecDepth 16384

noncomputable section

namespace Cert.KernelIdeal.Knn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point is the one at position zero. -/
theorem first_iff : ∀ t : Fin cfg0.N, First (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [First, e0]
    word_cmp
   : ∀ t : Fin grid0.N, First (grid0.coords t) ↔ t.val = 0)

/-! The memrefs a point is called with, and the tables. -/

abbrev stg0 (t : Fin cfg0.N) : Memref sig .tc .vmem S256x512 .f32 := win0_0.stage (cfg0.slots t 0)
theorem stg0_whole (t : Fin cfg0.N) : (stg0 t).IsWhole := hstage0_0 ((cfg0.slots t 0).cast nbuf0_0)
abbrev stg1 (t : Fin cfg0.N) : Memref sig .tc .vmem S4096x512 .f32 := win0_1.stage (cfg0.slots t 1)
theorem stg1_whole (t : Fin cfg0.N) : (stg1 t).IsWhole := hstage0_1 ((cfg0.slots t 1).cast nbuf0_1)
abbrev stg2 (t : Fin cfg0.N) : Memref sig .tc .vmem S4096x1 .i32 := win0_2.stage (cfg0.slots t 2)
theorem stg2_whole (t : Fin cfg0.N) : (stg2 t).IsWhole := hstage0_2 ((cfg0.slots t 2).cast nbuf0_2)
abbrev stg3 (t : Fin cfg0.N) : Memref sig .tc .vmem S1x4096 .i32 := win0_3.stage (cfg0.slots t 3)
theorem stg3_whole (t : Fin cfg0.N) : (stg3 t).IsWhole := hstage0_3 ((cfg0.slots t 3).cast nbuf0_3)
abbrev stg4 (t : Fin cfg0.N) : Memref sig .tc .vmem S1x128 .f32 := win0_4.stage (cfg0.slots t 4)
theorem stg4_whole (t : Fin cfg0.N) : (stg4 t).IsWhole := hstage0_4 ((cfg0.slots t 4).cast nbuf0_4)
abbrev tab0 : Memref sig .tc .vmem S1x4096 .f32 := Memref.whole cc0_scratch0
abbrev tab1 : Memref sig .tc .vmem S1x64 .f32 := Memref.whole cc0_scratch1
abbrev tab2 : Memref sig .tc .vmem S1x64 .f32 := Memref.whole cc0_scratch2
abbrev tab3 : Memref sig .tc .vmem S1x64 .f32 := Memref.whole cc0_scratch3

/-- The region's own invariant, the tables at anything. -/
theorem launch_inv (c : Dev nD) :
    (Pipeline.ΦA spec0 c : sProp 𝕄)
      = iprop(iprop((∃ d, owns (c : Thread nD τ) tab0 fullShare d) ∗ (∃ d, owns (c : Thread nD τ) tab1 fullShare d) ∗ (∃ d, owns (c : Thread nD τ) tab2 fullShare d) ∗ (∃ d, owns (c : Thread nD τ) tab3 fullShare d)) ∗ (∃ r, prngReg c r)) := by
  unfold Pipeline.ΦA; rw [scopedRest0_eq]; simp only [tab0, tab1, tab2, tab3, owns_whole]; try rfl

theorem pos_points : 0 < cfg0.N := by rw [show cfg0.N = 16 from N_0]; decide

/-- The whole array of samples and the whole column of labels, as the first point is given them. -/
def arr1 (c : Dev nD) : Vec F S4096x512 .f32 := iblk m c 1 ⟨0, pos_points⟩
def arr2 (c : Dev nD) : Vec F S4096x1 .i32 := iblk m c 2 ⟨0, pos_points⟩

/-- The accumulator after point `n`. -/
def accum (c : Dev nD) : (n : ℕ) → n < cfg0.N → Vec F S1x128 .f32
  | 0, hn => step (grid0.coords ⟨0, hn⟩) (iblk m c 0 ⟨0, hn⟩) (iblk m c 1 ⟨0, hn⟩) (iblk m c 2 ⟨0, hn⟩) (iblk m c 3 ⟨0, hn⟩)
      (k0_pay6 (arr1 m c)) (k0_pay11 (arr2 m c)) (k0_pay12 (arr2 m c)) (k0_pay13 (arr2 m c)) (k0_pay1 (F := F))
  | n + 1, hn => step (grid0.coords ⟨n + 1, hn⟩) (iblk m c 0 ⟨n + 1, hn⟩) (iblk m c 1 ⟨n + 1, hn⟩) (iblk m c 2 ⟨n + 1, hn⟩) (iblk m c 3 ⟨n + 1, hn⟩)
      (k0_pay6 (arr1 m c)) (k0_pay11 (arr2 m c)) (k0_pay12 (arr2 m c)) (k0_pay13 (arr2 m c)) (accum c n (Nat.lt_of_succ_lt hn))

/-- The invariant between points: before the first anything, afterwards the tables as the first point fills them. -/
def inv (c : Dev nD) : ℕ → sProp 𝕄
  | 0 => Pipeline.ΦA spec0 c
  | _ + 1 => iprop(iprop(owns (c : Thread nD τ) tab0 fullShare (k0_pay6 (arr1 m c)) ∗ owns (c : Thread nD τ) tab1 fullShare (k0_pay11 (arr2 m c)) ∗ owns (c : Thread nD τ) tab2 fullShare (k0_pay12 (arr2 m c)) ∗ owns (c : Thread nD τ) tab3 fullShare (k0_pay13 (arr2 m c))) ∗ (∃ r, prngReg c r))

/-- After the first point. -/
theorem inv_pos (c : Dev nD) {n : ℕ} (h : n ≠ 0) :
    inv m c n = iprop(iprop(owns (c : Thread nD τ) tab0 fullShare (k0_pay6 (arr1 m c)) ∗ owns (c : Thread nD τ) tab1 fullShare (k0_pay11 (arr2 m c)) ∗ owns (c : Thread nD τ) tab2 fullShare (k0_pay12 (arr2 m c)) ∗ owns (c : Thread nD τ) tab3 fullShare (k0_pay13 (arr2 m c))) ∗ (∃ r, prngReg c r)) := by
  cases n with
  | zero => exact absurd rfl h
  | succ n => rfl

/-- The pipeline's data: every input left as found, the output at the accumulator. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accum m c t.val t.isLt
  Φ t := inv m c t.val
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accum m c t.val t.isLt := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later point the output's buffer still holds the accumulator of the point before. -/
theorem before4 (c : Dev nD) (t : Fin cfg0.N) (h : t.val ≠ 0) (d) :
    (dats m 0 c).before 4 t d = accum m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-- The accumulator at the first point, and at a later one. -/
theorem accum_first (c : Dev nD) (t : Fin cfg0.N) (h : t.val = 0) : accum m c t.val t.isLt
    = step (grid0.coords t) (iblk m c 0 t) (iblk m c 1 t) (iblk m c 2 t) (iblk m c 3 t)
      (k0_pay6 (iblk m c 1 t)) (k0_pay11 (iblk m c 2 t)) (k0_pay12 (iblk m c 2 t)) (k0_pay13 (iblk m c 2 t)) (k0_pay1 (F := F)) := by
  obtain ⟨n, hn⟩ := t
  cases n with
  | zero => exact rfl
  | succ n => exact absurd h (Nat.succ_ne_zero n)
theorem accum_later (c : Dev nD) (t : Fin cfg0.N) (h : t.val ≠ 0) : accum m c t.val t.isLt
    = step (grid0.coords t) (iblk m c 0 t) (iblk m c 1 t) (iblk m c 2 t) (iblk m c 3 t)
      (k0_pay6 (arr1 m c)) (k0_pay11 (arr2 m c)) (k0_pay12 (arr2 m c)) (k0_pay13 (arr2 m c))
      (accum m c (t.val - 1) (Nat.lt_of_le_of_lt (Nat.sub_le _ _) t.isLt)) := by
  obtain ⟨n, hn⟩ := t
  cases n with
  | zero => exact absurd rfl h
  | succ n => exact rfl
theorem arr1_first (c : Dev nD) (t : Fin cfg0.N) (h : t.val = 0) : arr1 m c = iblk m c 1 t := by
  obtain ⟨n, hn⟩ := t
  cases n with
  | zero => exact rfl
  | succ n => exact absurd h (Nat.succ_ne_zero n)
theorem arr2_first (c : Dev nD) (t : Fin cfg0.N) (h : t.val = 0) : arr2 m c = iblk m c 2 t := by
  obtain ⟨n, hn⟩ := t
  cases n with
  | zero => exact rfl
  | succ n => exact absurd h (Nat.succ_ne_zero n)

/-- What a point is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4]
  rw [show (dats m 0 c).Φ t.succ = inv m c (t.val + 1) from rfl, show (dats m 0 c).Φ t.castSucc = inv m c t.val from rfl,
    inv_pos m c (Nat.succ_ne_zero t.val)]
  by_cases hz : t.val = 0
  · rw [show inv m c t.val = (Pipeline.ΦA spec0 c : sProp 𝕄) from by rw [hz]; rfl, launch_inv, arr1_first m c t hz, arr2_first m c t hz]
    rw [accum_first m c t hz]
    iintro ⟨⟨⟨HS0, HS1, HS2, HS3⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ _ _ _ _ _ _ ((first_iff t).mpr hz) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4
  · rw [inv_pos m c hz, accum_later m c t hz]
    simp only [before4 m c t hz]
    iintro ⟨⟨⟨HS0, HS1, HS2, HS3⟩, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ _ _ _ _ _ _ (fun h => hz ((first_iff t).mp h)) (iblk m c 0 t) (iblk m c 1 t) (iblk m c 2 t) (iblk m c 3 t) _ _ _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4

/-- The table's row at a point is the body there. -/
theorem row_at (t : Fin cfg0.N) : defs₀ (F := F) .tc cfg0.body (cfg0.bodyArgs t (cfg0.slots t)) = bodyAt0 t := by
  unfold defs₀; rw [Defs.onTc_tc]

/-- The obligation at every point. -/
theorem obligation (c : Dev nD) : BodyObligation (dats (F := F) m 0 c) (defs₀ (F := F)) Variants.none () Set.univ := fun t => by
  rw [bigSep_W0, bigSep_W0, row_at]
  exact triple_restated (sound_body m c t) rfl .rfl fun _ => .rfl

/-- The launch gives the invariant, and takes it back. -/
theorem inv_in (c : Dev nD) : Pipeline.ΦA spec0 c ⊢ (dats m 0 c).Φ 0 := by
  rw [show (dats m 0 c).Φ 0 = (Pipeline.ΦA spec0 c : sProp 𝕄) from rfl]
  try exact Idealize.SL.BI.Entails.refl _
theorem inv_out (c : Dev nD) : (dats m 0 c).Φ (Fin.last cfg0.N) ⊢ Pipeline.ΦA spec0 c := by
  rw [show (dats m 0 c).Φ (Fin.last cfg0.N) = inv m c (Fin.last cfg0.N).val from rfl,
    inv_pos m c (by rw [Fin.val_last]; have : cfg0.N = 16 := N_0; omega), launch_inv]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- The whole run: the arrays end as the data says, and no semaphore is left counting. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: the arguments end as they began, and no semaphore is left counting. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.KernelIdeal.Knn
-- ==== Proof.RefStages.lean ====
/- The reference's stages, named: each is the term its operations compute, over the arrays it reads. The two results are
   `meanLoss` and `accuracy`. -/
module

public import proofs.«01_k».proof.Proof.Gen.ReferenceIdeal

@[expose] public section

noncomputable section

namespace Cert.ReferenceIdeal.Knn

open Cert.ReferenceIdeal Cert.ReferenceIdeal.Gen Idealize.ShloMosaic

variable {F : FTy → Type} [FloatOps F]

/-- A scalar repeated over the square. -/
abbrev wide (b : BitVec 32) : FVec F S4096x4096 .f32 := broadcastInDim S4096x4096 ![] bcast_S_S4096x4096 (constant S_ .f32 b)
/-- A scalar repeated over the rows. -/
abbrev tall (b : BitVec 32) : FVec F S4096 .f32 := broadcastInDim S4096 ![] bcast_S_S4096 (constant S_ .f32 b)
/-- A row vector repeated along the columns. -/
abbrev acrossI (t : IVec S4096 32) : IVec S4096x4096 32 :=
  broadcastInDim S4096x4096 ![0, 1] bcast_S4096x1_S4096x4096_0_1 (broadcastInDim S4096x1 ![0] bcast_S4096_S4096x1_0 t)

/-- Each row's squared length, as a column. -/
def squares (x : FVec F S4096x512 .f32) : FVec F S4096x1 .f32 :=
  broadcastInDim S4096x1 ![0] bcast_S4096_S4096x1_0
    (Host.reduceAdd (mulf x x) (constant S_ .f32 0x00000000#32) reducesTo_S4096x512_S4096_d1 h_S_)

/-- The squared distances of every row to every row. -/
def gaps (x : FVec F S4096x512 .f32) : FVec F S4096x4096 .f32 :=
  subf (addf (broadcastInDim S4096x4096 ![0, 1] bcast_S4096x1_S4096x4096_0_1 (squares x))
      (broadcastInDim S4096x4096 ![0, 1] bcast_S1x4096_S4096x4096_0_1
        (transpose S1x4096 [1, 0] (squares x) transposes_S4096x1_S1x4096_1_0)))
    (mulf (wide 0x40000000#32)
      (Host.dotGeneral dot_S4096x512_S512x4096_S4096x4096_1_0_0_1_n_n none x
        (transpose S512x4096 [1, 0] x transposes_S4096x512_S512x4096_1_0)))

/-- The distances. -/
def dists (x : FVec F S4096x512 .f32) : FVec F S4096x4096 .f32 :=
  Host.sqrt (maximumf (wide 0x2B8CBCCC#32) (gaps x))

/-- The diagonal. -/
def eye : IVec S4096x4096 1 :=
  cmpi .eq (addi (iotaInDim S4096x4096 32 0) (broadcastInDim S4096x4096 ![] bcast_S_S4096x4096 (constantI S_ 32 0#32)))
    (iotaInDim S4096x4096 32 1)

/-- Two rows of one class. -/
def same (t : IVec S4096 32) : IVec S4096x4096 1 :=
  cmpi .eq (acrossI t)
    (broadcastInDim S4096x4096 ![0, 1] bcast_S1x4096_S4096x4096_0_1 (broadcastInDim S1x4096 ![1] bcast_S4096_S1x4096_1 t))

/-- Two different rows of one class. -/
def pos (t : IVec S4096 32) : IVec S4096x4096 1 := andi (same t) (noti eye)
/-- Two rows of different classes. -/
def neg (t : IVec S4096 32) : IVec S4096x4096 1 := noti (same t)

/-- Each row's distances to the others, in increasing order. -/
def ordered (x : FVec F S4096x512 .f32) : FVec F S4096x4096 .f32 :=
  Host.sort S4096x4096 1 comparator_f32_d1 (select eye (wide 0x7F800000#32) (dists x))

/-- The row's threshold: the distance of rank sixteen. -/
def threshold (x : FVec F S4096x512 .f32) : FVec F S4096 .f32 :=
  shapeCast S4096 (extractStridedSlice S4096x1 ![0, 16] (ordered x) slices_S4096x4096_S4096x1_0_16) shapeCasts_S4096x1_S4096

/-- The pairs nearer than the row's threshold. -/
def near (x : FVec F S4096x512 .f32) : IVec S4096x4096 1 :=
  cmpf .olt (dists x)
    (broadcastInDim S4096x4096 ![0, 1] bcast_S4096x1_S4096x4096_0_1
      (broadcastInDim S4096x1 ![0] bcast_S4096_S4096x1_0 (threshold x)))

/-- The weight of a pair. -/
def weights (x : FVec F S4096x512 .f32) : FVec F S4096x4096 .f32 :=
  Host.exp (mulf (wide 0x41F00000#32) (subf (wide 0x3F800000#32) (dists x)))

/-- A row's sum of the weights a mask keeps. -/
def kept (mask : IVec S4096x4096 1) (x : FVec F S4096x512 .f32) : FVec F S4096 .f32 :=
  Host.reduceAdd (select mask (weights x) (wide 0x00000000#32)) (constant S_ .f32 0x00000000#32)
    reducesTo_S4096x4096_S4096_d1 h_S_

/-- Whether a row of a mask holds anything. -/
def anyOf (mask : IVec S4096x4096 1) : IVec S4096 1 :=
  Host.reduce IntOp.ori mask (constantI S_ 1 0#1) reducesTo_S4096x4096_S4096_d1 h_S_

/-- What `argmax` leaves of the values. -/
def argmaxVal (x : IVec S4096x4096 1) (y : IVec S4096x4096 32) (u : IVec S_ 1) (v : IVec S_ 32) : IVec S4096 1 :=
  fun j => (Host.reduce2 reducer_argmax_i1_i32 x y u v reducesTo_S4096x4096_S4096_d1 h_S_ j).1
/-- What `argmax` leaves of the indices. -/
def argmaxIdx (x : IVec S4096x4096 1) (y : IVec S4096x4096 32) (u : IVec S_ 1) (v : IVec S_ 32) : IVec S4096 32 :=
  fun j => (Host.reduce2 reducer_argmax_i1_i32 x y u v reducesTo_S4096x4096_S4096_d1 h_S_ j).2

/-- The first column of a row's mask that is set. -/
def first (mask : IVec S4096x4096 1) : IVec S4096 32 :=
  argmaxIdx mask (iotaInDim S4096x4096 32 1) (constantI S_ 1 0#1) (constantI S_ 32 0#32)

/-- An index counted from the end where it is negative. -/
def wrapped (i : IVec S4096 32) : IVec S4096 32 :=
  select (cmpi .slt i (broadcastInDim S4096 ![] bcast_S_S4096 (constantI S_ 32 0#32)))
    (addi i (broadcastInDim S4096 ![] bcast_S_S4096 (constantI S_ 32 4096#32))) i

/-- Two columns of indices side by side. -/
def pairUp (a b : IVec S4096x1 32) : IVec S4096x2 32 :=
  concatenate S4096x2 1 [⟨S4096x1, a⟩, ⟨S4096x1, b⟩] concatenates_S4096x1_S4096x1_S4096x2_d1

/-- Each row's distance to its first row of the same class. -/
def firstDist (x : FVec F S4096x512 .f32) (t : IVec S4096 32) : FVec F S4096 .f32 :=
  Host.gather gather_S4096x4096_S4096x2_S4096_n_01_n_n_01_1_11 (dists x)
    (pairUp (broadcastInDim S4096x1 ![0] bcast_S4096_S4096x1_0 (wrapped (iotaInDim S4096 32 0)))
      (broadcastInDim S4096x1 ![0] bcast_S4096_S4096x1_0 (wrapped (first (pos t)))))

/-- The weight of that pair. -/
def fallback (x : FVec F S4096x512 .f32) (t : IVec S4096 32) : FVec F S4096 .f32 :=
  Host.exp (mulf (tall 0x41F00000#32) (subf (tall 0x3F800000#32) (firstDist x t)))

/-- The positive weight of a row. -/
def posLogit (x : FVec F S4096x512 .f32) (t : IVec S4096 32) : FVec F S4096 .f32 :=
  select (anyOf (andi (pos t) (near x))) (kept (andi (pos t) (near x)) x) (fallback x t)

/-- The loss of a row. -/
def rowLoss (x : FVec F S4096x512 .f32) (t : IVec S4096 32) : FVec F S4096 .f32 :=
  Host.negf (Host.log (Host.divf (posLogit x t) (addf (posLogit x t) (kept (andi (neg t) (near x)) x))))

/-- The rows with someone of their class and someone of another. -/
def valid (t : IVec S4096 32) : IVec S4096 1 := andi (anyOf (pos t)) (anyOf (neg t))

/-- How many rows a mask holds. -/
def countOf (mask : IVec S4096 1) : IVec S_ 32 :=
  Host.reduce IntOp.addi (extui 32 mask natLt_1_32) (constantI S_ 32 0#32) reducesTo_S4096_S_d0 h_S_

/-- The first result. -/
def meanLoss (x : FVec F S4096x512 .f32) (t : IVec S4096 32) : FVec F S_ .f32 :=
  Host.divf (Host.reduceAdd (select (valid t) (rowLoss x t) (tall 0x00000000#32)) (constant S_ .f32 0x00000000#32)
      reducesTo_S4096_S_d0 h_S_)
    (sitofp .f32 (maxsi (countOf (valid t)) (constantI S_ 32 1#32)))

/-- The second result. -/
def accuracy (x : FVec F S4096x512 .f32) (t : IVec S4096 32) : FVec F S_ .f32 :=
  Host.divf (sitofp .f32 (countOf (andi (valid t) (cmpf .olt (rowLoss x t) (tall 0x3F19999A#32)))))
    (constant S_ .f32 0x45800000#32)

end Cert.ReferenceIdeal.Knn

end
-- ==== Proof.RefRun.lean ====
/- The reference program's run. Its `@main` is a straight line of host operations; they are listed here in order (a called
   function's operations stand in its call's place), and every weakly fair execution leaves the two computed results
   and the two constants at the stages of Proof/RefStages.lean. -/
module

public import proofs.«01_k».proof.Proof.RefStages
public import Idealize.ShloMosaic.Lib.StableHlo.Run

@[expose] public section

noncomputable section

namespace Cert.ReferenceIdeal.Knn

open Cert.ReferenceIdeal Cert.ReferenceIdeal.Gen Idealize.ShloMosaic Idealize.ShloMosaic.TcCoe Idealize.SL.Sem Idealize.ShloMosaic.StableHlo

variable {F : FTy → Type} [FloatOps F]

/-- The host operations of `@main`, in program order. -/
abbrev line : List (HloOp τ sig (Elt F)) :=
  [ StableHlo.binary main_arg0 main_arg0 main_v0 (mulf : (⟨S4096x512, .f32⟩ : BufTy).Contents (Elt F) → (⟨S4096x512, .f32⟩ : BufTy).Contents (Elt F) → (⟨S4096x512, .f32⟩ : BufTy).Contents (Elt F)),
    StableHlo.nullary main_cst (constant S_ .f32 0x00000000#32),
    StableHlo.binary main_v0 main_cst main_v1 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    StableHlo.unary main_v1 main_v2 (broadcastInDim S4096x1 ![0] bcast_S4096_S4096x1_0 : (⟨S4096, .f32⟩ : BufTy).Contents (Elt F) → (⟨S4096x1, .f32⟩ : BufTy).Contents (Elt F)),
    StableHlo.unary main_v2 main_v3 ((transpose S1x4096 [1, 0] · transposes_S4096x1_S1x4096_1_0) : (⟨S4096x1, .f32⟩ : BufTy).Contents (Elt F) → (⟨S1x4096, .f32⟩ : BufTy).Contents (Elt F)),
    StableHlo.unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    StableHlo.unary main_arg0 main_v7 ((transpose S512x4096 [1, 0] · transposes_S4096x512_S512x4096_1_0) : (⟨S4096x512, .f32⟩ : BufTy).Contents (Elt F) → (⟨S512x4096, .f32⟩ : BufTy).Contents (Elt F)),
    StableHlo.binary main_arg0 main_v7 main_v8 ((fun l r => Host.dotGeneral dot_S4096x512_S512x4096_S4096x4096_1_0_0_1_n_n none l r) : (⟨S4096x512, .f32⟩ : BufTy).Contents (Elt F) → (⟨S512x4096, .f32⟩ : BufTy).Contents (Elt F) → (⟨S4096x4096, .f32⟩ : BufTy).Contents (Elt F)),
    StableHlo.nullary main_cst_0 (constant S_ .f32 0x40000000#32),
    StableHlo.unary main_cst_0 main_v9 (broadcastInDim S4096x4096 ![] bcast_S_S4096x4096 : (⟨S_, .f32⟩ : BufTy).Contents (Elt F) → (⟨S4096x4096, .f32⟩ : BufTy).Contents (Elt F)),
    StableHlo.binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    StableHlo.binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x2B8CBCCC#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S4096x4096, .f32⟩) main_call0_v1) (broadcastInDim S4096x4096 ![] bcast_S_S4096x4096),
    TRef.binary (TRef.of (T := ⟨S4096x4096, .f32⟩) main_call0_v1) (TRef.of (T := ⟨S4096x4096, .f32⟩) main_v11) (TRef.of (T := ⟨S4096x4096, .f32⟩) main_v12) maximumf,
    StableHlo.unary main_v12 main_v13 (Host.sqrt : (⟨S4096x4096, .f32⟩ : BufTy).Contents (Elt F) → (⟨S4096x4096, .f32⟩ : BufTy).Contents (Elt F)),
    StableHlo.nullary main_v14 (iotaInDim S4096x4096 32 0),
    StableHlo.nullary main_v15 (iotaInDim S4096x4096 32 1),
    StableHlo.nullary main_c (constantI S_ 32 0#32),
    StableHlo.unary main_c main_v16 (broadcastInDim S4096x4096 ![] bcast_S_S4096x4096 : (⟨S_, .i32⟩ : BufTy).Contents (Elt F) → (⟨S4096x4096, .i32⟩ : BufTy).Contents (Elt F)),
    StableHlo.binary main_v14 main_v16 main_v17 (addi : (⟨S4096x4096, .i32⟩ : BufTy).Contents (Elt F) → (⟨S4096x4096, .i32⟩ : BufTy).Contents (Elt F) → (⟨S4096x4096, .i32⟩ : BufTy).Contents (Elt F)),
    StableHlo.binary main_v17 main_v15 main_v18 (cmpi .eq : (⟨S4096x4096, .i32⟩ : BufTy).Contents (Elt F) → (⟨S4096x4096, .i32⟩ : BufTy).Contents (Elt F) → (⟨S4096x4096, .i1⟩ : BufTy).Contents (Elt F)),
    StableHlo.unary main_arg1 main_v19 (broadcastInDim S4096x1 ![0] bcast_S4096_S4096x1_0 : (⟨S4096, .i32⟩ : BufTy).Contents (Elt F) → (⟨S4096x1, .i32⟩ : BufTy).Contents (Elt F)),
    StableHlo.unary main_arg1 main_v20 (broadcastInDim S1x4096 ![1] bcast_S4096_S1x4096_1 : (⟨S4096, .i32⟩ : BufTy).Contents (Elt F) → (⟨S1x4096, .i32⟩ : BufTy).Contents (Elt F)),
    StableHlo.unary main_v19 main_v21 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v20 main_v22 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v21 main_v22 main_v23 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v18 main_v24 (noti : (⟨S4096x4096, .i1⟩ : BufTy).Contents (Elt F) → (⟨S4096x4096, .i1⟩ : BufTy).Contents (Elt F)),
    StableHlo.binary main_v23 main_v24 main_v25 (andi : (⟨S4096x4096, .i1⟩ : BufTy).Contents (Elt F) → (⟨S4096x4096, .i1⟩ : BufTy).Contents (Elt F) → (⟨S4096x4096, .i1⟩ : BufTy).Contents (Elt F)),
    StableHlo.unary main_v23 main_v26 (noti : (⟨S4096x4096, .i1⟩ : BufTy).Contents (Elt F) → (⟨S4096x4096, .i1⟩ : BufTy).Contents (Elt F)),
    StableHlo.nullary main_cst_2 (constant S_ .f32 0x7F800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S4096x4096, .f32⟩) main_call1_v1) (broadcastInDim S4096x4096 ![] bcast_S_S4096x4096),
    TRef.ternary (TRef.of (T := ⟨S4096x4096, .i1⟩) main_v18) (TRef.of (T := ⟨S4096x4096, .f32⟩) main_call1_v1) (TRef.of (T := ⟨S4096x4096, .f32⟩) main_v13) (TRef.of (T := ⟨S4096x4096, .f32⟩) main_v27) select,
    TRef.unary (TRef.of (T := ⟨S4096x4096, .f32⟩) main_v27) (TRef.of (T := ⟨S4096x4096, .f32⟩) main_v28) (fun x => Host.sort S4096x4096 1 comparator_f32_d1 x),
    StableHlo.unary main_v28 main_v29 ((extractStridedSlice S4096x1 ![0, 16] · slices_S4096x4096_S4096x1_0_16) : (⟨S4096x4096, .f32⟩ : BufTy).Contents (Elt F) → (⟨S4096x1, .f32⟩ : BufTy).Contents (Elt F)),
    StableHlo.reshape main_v29 main_v30 (rfl : (.f32 : EltTy) = .f32) shapeCasts_S4096x1_S4096,
    StableHlo.unary main_v30 main_v31 (broadcastInDim S4096x1 ![0] bcast_S4096_S4096x1_0 : (⟨S4096, .f32⟩ : BufTy).Contents (Elt F) → (⟨S4096x1, .f32⟩ : BufTy).Contents (Elt F)),
    StableHlo.unary main_v31 main_v32 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v13 main_v32 main_v33 (cmpf .olt : (⟨S4096x4096, .f32⟩ : BufTy).Contents (Elt F) → (⟨S4096x4096, .f32⟩ : BufTy).Contents (Elt F) → (⟨S4096x4096, .i1⟩ : BufTy).Contents (Elt F)),
    StableHlo.binary main_v25 main_v33 main_v34 (andi : (⟨S4096x4096, .i1⟩ : BufTy).Contents (Elt F) → (⟨S4096x4096, .i1⟩ : BufTy).Contents (Elt F) → (⟨S4096x4096, .i1⟩ : BufTy).Contents (Elt F)),
    StableHlo.binary main_v26 main_v33 main_v35 (andi : (⟨S4096x4096, .i1⟩ : BufTy).Contents (Elt F) → (⟨S4096x4096, .i1⟩ : BufTy).Contents (Elt F) → (⟨S4096x4096, .i1⟩ : BufTy).Contents (Elt F)),
    StableHlo.nullary main_cst_3 (constant S_ .f32 0x3F800000#32),
    StableHlo.unary main_cst_3 main_v36 (broadcastInDim S4096x4096 ![] bcast_S_S4096x4096 : (⟨S_, .f32⟩ : BufTy).Contents (Elt F) → (⟨S4096x4096, .f32⟩ : BufTy).Contents (Elt F)),
    StableHlo.binary main_v36 main_v13 main_v37 (subf : (⟨S4096x4096, .f32⟩ : BufTy).Contents (Elt F) → (⟨S4096x4096, .f32⟩ : BufTy).Contents (Elt F) → (⟨S4096x4096, .f32⟩ : BufTy).Contents (Elt F)),
    StableHlo.nullary main_cst_4 (constant S_ .f32 0x41F00000#32),
    StableHlo.unary main_cst_4 main_v38 (broadcastInDim S4096x4096 ![] bcast_S_S4096x4096 : (⟨S_, .f32⟩ : BufTy).Contents (Elt F) → (⟨S4096x4096, .f32⟩ : BufTy).Contents (Elt F)),
    StableHlo.binary main_v38 main_v37 main_v39 (mulf : (⟨S4096x4096, .f32⟩ : BufTy).Contents (Elt F) → (⟨S4096x4096, .f32⟩ : BufTy).Contents (Elt F) → (⟨S4096x4096, .f32⟩ : BufTy).Contents (Elt F)),
    StableHlo.unary main_v39 main_v40 (Host.exp : (⟨S4096x4096, .f32⟩ : BufTy).Contents (Elt F) → (⟨S4096x4096, .f32⟩ : BufTy).Contents (Elt F)),
    StableHlo.nullary main_cst_5 (constant S_ .f32 0x00000000#32),
    TRef.unary (TRef.of (T := ⟨S_, .f32⟩) main_cst_5) (TRef.of (T := ⟨S_, .f32⟩) main_call3_v0) id,
    TRef.unary (TRef.of (T := ⟨S_, .f32⟩) main_call3_v0) (TRef.of (T := ⟨S4096x4096, .f32⟩) main_call3_v1) (broadcastInDim S4096x4096 ![] bcast_S_S4096x4096),
    TRef.ternary (TRef.of (T := ⟨S4096x4096, .i1⟩) main_v34) (TRef.of (T := ⟨S4096x4096, .f32⟩) main_v40) (TRef.of (T := ⟨S4096x4096, .f32⟩) main_call3_v1) (TRef.of (T := ⟨S4096x4096, .f32⟩) main_v41) select,
    StableHlo.nullary main_cst_6 (constant S_ .f32 0x00000000#32),
    StableHlo.binary main_v41 main_cst_6 main_v42 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_7 (constant S_ .f32 0x00000000#32),
    TRef.unary (TRef.of (T := ⟨S_, .f32⟩) main_cst_7) (TRef.of (T := ⟨S_, .f32⟩) main_call4_v0) id,
    TRef.unary (TRef.of (T := ⟨S_, .f32⟩) main_call4_v0) (TRef.of (T := ⟨S4096x4096, .f32⟩) main_call4_v1) (broadcastInDim S4096x4096 ![] bcast_S_S4096x4096),
    TRef.ternary (TRef.of (T := ⟨S4096x4096, .i1⟩) main_v35) (TRef.of (T := ⟨S4096x4096, .f32⟩) main_v40) (TRef.of (T := ⟨S4096x4096, .f32⟩) main_call4_v1) (TRef.of (T := ⟨S4096x4096, .f32⟩) main_v43) select,
    StableHlo.nullary main_cst_8 (constant S_ .f32 0x00000000#32),
    StableHlo.binary main_v43 main_cst_8 main_v44 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_c_9 (constantI S_ 1 0#1),
    StableHlo.binary main_v34 main_c_9 main_v45 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    TRef.nullary (TRef.of (T := ⟨S4096x4096, .i32⟩) main_call5_v0) (iotaInDim S4096x4096 32 1),
    TRef.nullary (TRef.of (T := ⟨S_, .i1⟩) main_call5_c) (constantI S_ 1 0#1),
    TRef.nullary (TRef.of (T := ⟨S_, .i32⟩) main_call5_c_0) (constantI S_ 32 0#32),
    TRef.quaternary (TRef.of (T := ⟨S4096x4096, .i1⟩) main_v25) (TRef.of (T := ⟨S4096x4096, .i32⟩) main_call5_v0) (TRef.of (T := ⟨S_, .i1⟩) main_call5_c) (TRef.of (T := ⟨S_, .i32⟩) main_call5_c_0) (TRef.of (T := ⟨S4096, .i1⟩) main_call5_v1_0) argmaxVal,
    TRef.quaternary (TRef.of (T := ⟨S4096x4096, .i1⟩) main_v25) (TRef.of (T := ⟨S4096x4096, .i32⟩) main_call5_v0) (TRef.of (T := ⟨S_, .i1⟩) main_call5_c) (TRef.of (T := ⟨S_, .i32⟩) main_call5_c_0) (TRef.of (T := ⟨S4096, .i32⟩) main_v46) argmaxIdx,
    StableHlo.nullary main_v47 (iotaInDim S4096 32 0),
    StableHlo.nullary main_c_10 (constantI S_ 32 0#32),
    StableHlo.unary main_c_10 main_v48 (broadcastInDim S4096 ![] bcast_S_S4096 : (⟨S_, .i32⟩ : BufTy).Contents (Elt F) → (⟨S4096, .i32⟩ : BufTy).Contents (Elt F)),
    StableHlo.binary main_v47 main_v48 main_v49 (cmpi .slt : (⟨S4096, .i32⟩ : BufTy).Contents (Elt F) → (⟨S4096, .i32⟩ : BufTy).Contents (Elt F) → (⟨S4096, .i1⟩ : BufTy).Contents (Elt F)),
    StableHlo.nullary main_c_11 (constantI S_ 32 4096#32),
    StableHlo.unary main_c_11 main_v50 (broadcastInDim S4096 ![] bcast_S_S4096 : (⟨S_, .i32⟩ : BufTy).Contents (Elt F) → (⟨S4096, .i32⟩ : BufTy).Contents (Elt F)),
    StableHlo.binary main_v47 main_v50 main_v51 (addi : (⟨S4096, .i32⟩ : BufTy).Contents (Elt F) → (⟨S4096, .i32⟩ : BufTy).Contents (Elt F) → (⟨S4096, .i32⟩ : BufTy).Contents (Elt F)),
    StableHlo.ternary main_v49 main_v51 main_v47 main_v52 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_12 (constantI S_ 32 0#32),
    StableHlo.unary main_c_12 main_v53 (broadcastInDim S4096 ![] bcast_S_S4096 : (⟨S_, .i32⟩ : BufTy).Contents (Elt F) → (⟨S4096, .i32⟩ : BufTy).Contents (Elt F)),
    StableHlo.binary main_v46 main_v53 main_v54 (cmpi .slt : (⟨S4096, .i32⟩ : BufTy).Contents (Elt F) → (⟨S4096, .i32⟩ : BufTy).Contents (Elt F) → (⟨S4096, .i1⟩ : BufTy).Contents (Elt F)),
    StableHlo.nullary main_c_13 (constantI S_ 32 4096#32),
    StableHlo.unary main_c_13 main_v55 (broadcastInDim S4096 ![] bcast_S_S4096 : (⟨S_, .i32⟩ : BufTy).Contents (Elt F) → (⟨S4096, .i32⟩ : BufTy).Contents (Elt F)),
    StableHlo.binary main_v46 main_v55 main_v56 (addi : (⟨S4096, .i32⟩ : BufTy).Contents (Elt F) → (⟨S4096, .i32⟩ : BufTy).Contents (Elt F) → (⟨S4096, .i32⟩ : BufTy).Contents (Elt F)),
    StableHlo.ternary main_v54 main_v56 main_v46 main_v57 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v52 main_v58 (broadcastInDim S4096x1 ![0] bcast_S4096_S4096x1_0 : (⟨S4096, .i32⟩ : BufTy).Contents (Elt F) → (⟨S4096x1, .i32⟩ : BufTy).Contents (Elt F)),
    StableHlo.unary main_v57 main_v59 (broadcastInDim S4096x1 ![0] bcast_S4096_S4096x1_0 : (⟨S4096, .i32⟩ : BufTy).Contents (Elt F) → (⟨S4096x1, .i32⟩ : BufTy).Contents (Elt F)),
    StableHlo.binary main_v58 main_v59 main_v60 (pairUp : (⟨S4096x1, .i32⟩ : BufTy).Contents (Elt F) → (⟨S4096x1, .i32⟩ : BufTy).Contents (Elt F) → (⟨S4096x2, .i32⟩ : BufTy).Contents (Elt F)),
    StableHlo.binary main_v13 main_v60 main_v61 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.nullary main_cst_14 (constant S_ .f32 0x3F800000#32),
    StableHlo.unary main_cst_14 main_v62 (broadcastInDim S4096 ![] bcast_S_S4096 : (⟨S_, .f32⟩ : BufTy).Contents (Elt F) → (⟨S4096, .f32⟩ : BufTy).Contents (Elt F)),
    StableHlo.binary main_v62 main_v61 main_v63 (subf : (⟨S4096, .f32⟩ : BufTy).Contents (Elt F) → (⟨S4096, .f32⟩ : BufTy).Contents (Elt F) → (⟨S4096, .f32⟩ : BufTy).Contents (Elt F)),
    StableHlo.nullary main_cst_15 (constant S_ .f32 0x41F00000#32),
    StableHlo.unary main_cst_15 main_v64 (broadcastInDim S4096 ![] bcast_S_S4096 : (⟨S_, .f32⟩ : BufTy).Contents (Elt F) → (⟨S4096, .f32⟩ : BufTy).Contents (Elt F)),
    StableHlo.binary main_v64 main_v63 main_v65 (mulf : (⟨S4096, .f32⟩ : BufTy).Contents (Elt F) → (⟨S4096, .f32⟩ : BufTy).Contents (Elt F) → (⟨S4096, .f32⟩ : BufTy).Contents (Elt F)),
    StableHlo.unary main_v65 main_v66 (Host.exp : (⟨S4096, .f32⟩ : BufTy).Contents (Elt F) → (⟨S4096, .f32⟩ : BufTy).Contents (Elt F)),
    TRef.ternary (TRef.of (T := ⟨S4096, .i1⟩) main_v45) (TRef.of (T := ⟨S4096, .f32⟩) main_v42) (TRef.of (T := ⟨S4096, .f32⟩) main_v66) (TRef.of (T := ⟨S4096, .f32⟩) main_v67) select,
    StableHlo.binary main_v67 main_v44 main_v68 (addf : (⟨S4096, .f32⟩ : BufTy).Contents (Elt F) → (⟨S4096, .f32⟩ : BufTy).Contents (Elt F) → (⟨S4096, .f32⟩ : BufTy).Contents (Elt F)),
    StableHlo.binary main_v67 main_v68 main_v69 (Host.divf : (⟨S4096, .f32⟩ : BufTy).Contents (Elt F) → (⟨S4096, .f32⟩ : BufTy).Contents (Elt F) → (⟨S4096, .f32⟩ : BufTy).Contents (Elt F)),
    StableHlo.unary main_v69 main_v70 (Host.log : (⟨S4096, .f32⟩ : BufTy).Contents (Elt F) → (⟨S4096, .f32⟩ : BufTy).Contents (Elt F)),
    StableHlo.unary main_v70 main_v71 (Host.negf : (⟨S4096, .f32⟩ : BufTy).Contents (Elt F) → (⟨S4096, .f32⟩ : BufTy).Contents (Elt F)),
    StableHlo.nullary main_c_16 (constantI S_ 1 0#1),
    StableHlo.binary main_v25 main_c_16 main_v72 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    StableHlo.nullary main_c_17 (constantI S_ 1 0#1),
    StableHlo.binary main_v26 main_c_17 main_v73 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    StableHlo.binary main_v72 main_v73 main_v74 (andi : (⟨S4096, .i1⟩ : BufTy).Contents (Elt F) → (⟨S4096, .i1⟩ : BufTy).Contents (Elt F) → (⟨S4096, .i1⟩ : BufTy).Contents (Elt F)),
    StableHlo.unary main_v74 main_v75 ((extui 32 · natLt_1_32) : (⟨S4096, .i1⟩ : BufTy).Contents (Elt F) → (⟨S4096, .i32⟩ : BufTy).Contents (Elt F)),
    StableHlo.nullary main_c_18 (constantI S_ 32 0#32),
    StableHlo.binary main_v75 main_c_18 main_v76 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    StableHlo.nullary main_c_19 (constantI S_ 32 1#32),
    StableHlo.binary main_v76 main_c_19 main_v77 (maxsi : (⟨S_, .i32⟩ : BufTy).Contents (Elt F) → (⟨S_, .i32⟩ : BufTy).Contents (Elt F) → (⟨S_, .i32⟩ : BufTy).Contents (Elt F)),
    StableHlo.nullary main_cst_20 (constant S_ .f32 0x00000000#32),
    TRef.unary (TRef.of (T := ⟨S_, .f32⟩) main_cst_20) (TRef.of (T := ⟨S_, .f32⟩) main_call7_v0) id,
    TRef.unary (TRef.of (T := ⟨S_, .f32⟩) main_call7_v0) (TRef.of (T := ⟨S4096, .f32⟩) main_call7_v1) (broadcastInDim S4096 ![] bcast_S_S4096),
    TRef.ternary (TRef.of (T := ⟨S4096, .i1⟩) main_v74) (TRef.of (T := ⟨S4096, .f32⟩) main_v71) (TRef.of (T := ⟨S4096, .f32⟩) main_call7_v1) (TRef.of (T := ⟨S4096, .f32⟩) main_v78) select,
    StableHlo.nullary main_cst_21 (constant S_ .f32 0x00000000#32),
    StableHlo.binary main_v78 main_cst_21 main_v79 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v77 main_v80 (sitofp .f32 : (⟨S_, .i32⟩ : BufTy).Contents (Elt F) → (⟨S_, .f32⟩ : BufTy).Contents (Elt F)),
    StableHlo.binary main_v79 main_v80 main_v81 (Host.divf : (⟨S_, .f32⟩ : BufTy).Contents (Elt F) → (⟨S_, .f32⟩ : BufTy).Contents (Elt F) → (⟨S_, .f32⟩ : BufTy).Contents (Elt F)),
    StableHlo.nullary main_cst_22 (constant S_ .f32 0x3F19999A#32),
    StableHlo.unary main_cst_22 main_v82 (broadcastInDim S4096 ![] bcast_S_S4096 : (⟨S_, .f32⟩ : BufTy).Contents (Elt F) → (⟨S4096, .f32⟩ : BufTy).Contents (Elt F)),
    StableHlo.binary main_v71 main_v82 main_v83 (cmpf .olt : (⟨S4096, .f32⟩ : BufTy).Contents (Elt F) → (⟨S4096, .f32⟩ : BufTy).Contents (Elt F) → (⟨S4096, .i1⟩ : BufTy).Contents (Elt F)),
    StableHlo.binary main_v74 main_v83 main_v84 (andi : (⟨S4096, .i1⟩ : BufTy).Contents (Elt F) → (⟨S4096, .i1⟩ : BufTy).Contents (Elt F) → (⟨S4096, .i1⟩ : BufTy).Contents (Elt F)),
    StableHlo.unary main_v84 main_v85 ((extui 32 · natLt_1_32) : (⟨S4096, .i1⟩ : BufTy).Contents (Elt F) → (⟨S4096, .i32⟩ : BufTy).Contents (Elt F)),
    StableHlo.nullary main_c_23 (constantI S_ 32 0#32),
    StableHlo.binary main_v85 main_c_23 main_v86 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    StableHlo.unary main_v86 main_v87 (sitofp .f32 : (⟨S_, .i32⟩ : BufTy).Contents (Elt F) → (⟨S_, .f32⟩ : BufTy).Contents (Elt F)),
    StableHlo.nullary main_cst_24 (constant S_ .f32 0x45800000#32),
    StableHlo.binary main_v87 main_cst_24 main_v88 (Host.divf : (⟨S_, .f32⟩ : BufTy).Contents (Elt F) → (⟨S_, .f32⟩ : BufTy).Contents (Elt F) → (⟨S_, .f32⟩ : BufTy).Contents (Elt F)),
    StableHlo.nullary main_cst_25 (constant S_ .f32 0x00000000#32),
    StableHlo.nullary main_cst_26 (constant S_ .f32 0x00000000#32) ]

set_option maxRecDepth 16384

set_option maxHeartbeats 4000000 in
theorem main_line (c : Dev nD) : main (F := F) c = seq line := rfl

theorem no_scoped_refs : (Finset.univ.filter fun b : Ref sig .tc => b.isScoped) = ∅ := by decide
theorem no_scoped_sems : (Finset.univ.filter fun sm : SemLoc sig => sm.isScoped .tc) = ∅ := by decide

theorem line_sub : (line : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub .., nullary_bufs_sub .., nullary_bufs_sub .., nullary_bufs_sub .., unary_bufs_sub .., binary_bufs_sub .., binary_bufs_sub .., unary_bufs_sub .., unary_bufs_sub .., unary_bufs_sub .., unary_bufs_sub .., binary_bufs_sub .., unary_bufs_sub .., binary_bufs_sub .., unary_bufs_sub .., nullary_bufs_sub .., unary_bufs_sub .., unary_bufs_sub .., ternary_bufs_sub .., unary_bufs_sub .., unary_bufs_sub .., reshape_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., nullary_bufs_sub .., nullary_bufs_sub .., quaternary_bufs_sub .., quaternary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., unary_bufs_sub .., ternary_bufs_sub .., binary_bufs_sub .., binary_bufs_sub .., unary_bufs_sub .., unary_bufs_sub .., nullary_bufs_sub .., binary_bufs_sub .., nullary_bufs_sub .., binary_bufs_sub .., binary_bufs_sub .., unary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., unary_bufs_sub .., binary_bufs_sub .., nullary_bufs_sub .., unary_bufs_sub .., binary_bufs_sub .., binary_bufs_sub .., unary_bufs_sub .., nullary_bufs_sub .., binary_bufs_sub .., unary_bufs_sub .., nullary_bufs_sub .., binary_bufs_sub .., nullary_bufs_sub .., nullary_bufs_sub ..⟩

set_option maxHeartbeats 60000000 in
/-- The reference's run: the results at their stages, the arguments as they were, every counter zero. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v81)
          = meanLoss (m ((c.tc : Thread nD τ).loc main_arg0)) (m ((c.tc : Thread nD τ).loc main_arg1))
      ∧ r.2.mem ((c.tc : Thread nD τ).loc main_v88)
          = accuracy (m ((c.tc : Thread nD τ).loc main_arg0)) (m ((c.tc : Thread nD τ).loc main_arg1))
      ∧ r.2.mem ((c.tc : Thread nD τ).loc main_cst_25) = constant S_ .f32 0x00000000#32
      ∧ r.2.mem ((c.tc : Thread nD τ).loc main_cst_26) = constant S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
      (h c main_v81).trans (by simp only [line, TRef.nullary, TRef.unary, TRef.binary, TRef.ternary, TRef.quaternary, TRef.toBuf, TRef.ofBuf, cast_eq]; after_results_simp <;> rfl),
      (h c main_v88).trans (by simp only [line, TRef.nullary, TRef.unary, TRef.binary, TRef.ternary, TRef.quaternary, TRef.toBuf, TRef.ofBuf, cast_eq]; after_results_simp <;> rfl),
      (h c main_cst_25).trans (by simp only [line, TRef.nullary, TRef.unary, TRef.binary, TRef.ternary, TRef.quaternary, TRef.toBuf, TRef.ofBuf, cast_eq]; after_results_simp <;> rfl),
      (h c main_cst_26).trans (by simp only [line, TRef.nullary, TRef.unary, TRef.binary, TRef.ternary, TRef.quaternary, TRef.toBuf, TRef.ofBuf, cast_eq]; after_results_simp <;> rfl),
      (h c main_arg0).trans (by simp only [line, TRef.nullary, TRef.unary, TRef.binary, TRef.ternary, TRef.quaternary, TRef.toBuf, TRef.ofBuf, cast_eq]; after_results_simp <;> rfl),
      (h c main_arg1).trans (by simp only [line, TRef.nullary, TRef.unary, TRef.binary, TRef.ternary, TRef.quaternary, TRef.toBuf, TRef.ofBuf, cast_eq]; after_results_simp <;> rfl)⟩)
    (run_seq no_scoped_refs no_scoped_sems defs main (fun _ => line) main_line (fun _ => line_sub) m ρ)

end Cert.ReferenceIdeal.Knn

end
-- ==== Proof.Frames.lean ====
/- The three frames, each read off its program's run; the kernel's two from one run, stated over any float values. -/
module

public import proofs.«01_k».proof.Defs
public import proofs.«01_k».proof.Proof.Gen.Kernel
public import proofs.«01_k».proof.Proof.Sound
public import proofs.«01_k».proof.Proof.RefRun
public import proofs.«01_k».proof.Proof.Near
public import Idealize.ShloMosaic.Lib.Claim

@[expose] public section

set_option maxRecDepth 16384

noncomputable section

namespace Cert.Proof

open Idealize.ShloMosaic Idealize.SL.Sem

/-- The two body tables hold one text. -/
theorem bodies : Cert.Kernel.defs₀ (F := Bits) = Cert.KernelIdeal.defs₀ (F := Bits) := by
  funext p l a
  match p, l, a with
  | .tc, 0, (t, s) => rfl
  | .scScalar _, l, a => rfl
  | .scVector _ _, l, a => rfl

theorem tables : Cert.Kernel.defs (F := Bits) = Cert.KernelIdeal.defs (F := Bits) :=
  congrArg (Pipeline.defs (Cert.KernelIdeal.pcfgs (F := Bits))) bodies

/-- The kernel as written, at machine floats. -/
theorem frame_kernel : Cert.quiescent_Kernel := by
  intro m ρ _
  rw [tables]
  exact Cert.KernelIdeal.Knn.run_frame (F := Bits) m ρ

/-- The same program over the extended reals. -/
theorem frame_ideal : Cert.quiescent_KernelIdeal := fun m ρ _ => Cert.KernelIdeal.Knn.run_frame (F := Ideal) m ρ

/-- The reference declares no semaphore; its arguments are never written. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.2.2.2.1, (h c).2.2.2.2.2⟩, sem_eq_zero_of_no_sems (by decide) r.2⟩)
    (Cert.ReferenceIdeal.Knn.run_main (F := Ideal) m ρ)

theorem frame_reference : Cert.quiescent_ReferenceIdeal := fun m ρ _ => run_reference m ρ

/-- Each frame holds without the precondition, so with it. -/
theorem frame_ideal_pre : Cert.quiescent_KernelIdeal_pre_near_apart := fun m ρ _ => Cert.KernelIdeal.Knn.run_frame (F := Ideal) m ρ
theorem frame_reference_pre : Cert.quiescent_ReferenceIdeal_pre_near_apart := fun m ρ _ => run_reference m ρ

end Cert.Proof

end
-- ==== Proof.Select.lean ====
/- Selection by order alone. A list of 32 values is pushed through a chain of min/max pairs: level `k` then lies below a
   value exactly when more than `k` of the list do. A row's smallest values, told apart, form a ladder; raising a lower
   bound round after round climbs it, whether the rounds look at the whole row or only at the levels, as long as the last
   level looked at never falls below the bound reached. -/
module

public import Idealize.ShloMosaic.PureOps.Ideal
public import Idealize.ShloMosaic.PureOps.Ideal.Laws
public import Mathlib.Data.EReal.Basic

@[expose] public section

namespace Knn.Select

/-! ## The chain of min/max pairs -/

/-- What a new value carries past the first `k` of the held levels. -/
noncomputable def past (m : ℕ → EReal) (p : EReal) : ℕ → EReal
  | 0 => p
  | k + 1 => max (m k) (past m p k)

/-- The levels after the first `c` values of `x`. -/
noncomputable def level (x : ℕ → EReal) : ℕ → ℕ → EReal
  | 0, _ => ⊤
  | c + 1, k => bif Nat.blt k c then min (level x c k) (past (level x c) (x c) k) else past (level x c) (x c) k

/-- A property of values that a smaller one inherits. -/
structure Lower (P : EReal → Prop) : Prop where
  min : ∀ a b, P (min a b) ↔ P a ∨ P b
  max : ∀ a b, P (max a b) ↔ P a ∧ P b

theorem lower_le (v : EReal) : Lower (· ≤ v) := ⟨fun _ _ => min_le_iff, fun _ _ => max_le_iff⟩
theorem lower_lt (v : EReal) : Lower (· < v) := ⟨fun _ _ => min_lt_iff, fun _ _ => max_lt_iff⟩

variable {P : EReal → Prop}

theorem past_iff (hP : Lower P) (m : ℕ → EReal) (p : EReal) (k : ℕ) : P (past m p k) ↔ P p ∧ ∀ j < k, P (m j) := by
  induction k with
  | zero => simp [past]
  | succ k ih =>
    rw [past, hP.max, ih]
    constructor
    · rintro ⟨a, b, c⟩
      exact ⟨b, fun j hj => (Nat.lt_succ_iff_lt_or_eq.1 hj).elim (c j) (fun e => e ▸ a)⟩
    · rintro ⟨b, c⟩
      exact ⟨c k (Nat.lt_succ_self k), b, fun j hj => c j (Nat.lt_succ_of_lt hj)⟩

open Classical in
/-- How many of the first `c` values have the property. -/
noncomputable def among (P : EReal → Prop) (x : ℕ → EReal) (c : ℕ) : ℕ := ((Finset.range c).filter fun i => P (x i)).card

open Classical in
theorem among_succ (x : ℕ → EReal) (c : ℕ) : among P x (c + 1) = among P x c + if P (x c) then 1 else 0 := by
  unfold among
  rw [Finset.range_add_one, Finset.filter_insert]
  split
  · rw [Finset.card_insert_of_notMem (by simp)]
  · simp

theorem among_le (x : ℕ → EReal) (c : ℕ) : among P x c ≤ c := by
  classical
  unfold among
  exact (Finset.card_filter_le _ _).trans (by simp)

open Classical in
theorem among_congr {Q : EReal → Prop} (x : ℕ → EReal) (c : ℕ) (h : ∀ i < c, P (x i) ↔ Q (x i)) : among P x c = among Q x c := by
  unfold among
  exact congrArg Finset.card (Finset.filter_congr fun i hi => h i (Finset.mem_range.1 hi))

open Classical in
theorem among_pos (x : ℕ → EReal) (c : ℕ) : 0 < among P x c ↔ ∃ i < c, P (x i) := by
  unfold among
  rw [Finset.card_pos]
  exact ⟨fun ⟨i, hi⟩ => ⟨i, Finset.mem_range.1 (Finset.mem_filter.1 hi).1, (Finset.mem_filter.1 hi).2⟩,
    fun ⟨i, hi, h⟩ => ⟨i, Finset.mem_filter.2 ⟨Finset.mem_range.2 hi, h⟩⟩⟩

open Classical in
theorem among_lt {Q : EReal → Prop} (x : ℕ → EReal) (c : ℕ) (h : ∀ i < c, P (x i) → Q (x i)) (i : ℕ) (hi : i < c)
    (hq : Q (x i)) (hp : ¬ P (x i)) : among P x c < among Q x c := by
  unfold among
  refine Finset.card_lt_card (Finset.ssubset_iff_subset_ne.2 ⟨fun j hj => ?_, fun heq => ?_⟩)
  · exact Finset.mem_filter.2 ⟨(Finset.mem_filter.1 hj).1, h j (Finset.mem_range.1 (Finset.mem_filter.1 hj).1) (Finset.mem_filter.1 hj).2⟩
  · have hm : i ∈ (Finset.range c).filter fun i => Q (x i) := Finset.mem_filter.2 ⟨Finset.mem_range.2 hi, hq⟩
    rw [← heq] at hm
    exact hp (Finset.mem_filter.1 hm).2

/-- Level `k` has a downward property exactly when more than `k` of the values do. -/
theorem level_iff (hP : Lower P) (x : ℕ → EReal) (c : ℕ) : ∀ k < c, P (level x c k) ↔ k < among P x c := by
  classical
  induction c with
  | zero => intro k hk; omega
  | succ c ih =>
    have key : ∀ k ≤ c, P (past (level x c) (x c) k) ↔ P (x c) ∧ k ≤ among P x c := by
      intro k hk
      rw [past_iff hP]
      refine and_congr_right fun _ => ⟨fun h => ?_, fun h j hj => (ih j (by omega)).2 (by omega)⟩
      rcases k with _ | k
      · omega
      · exact (ih k (by omega)).1 (h k (Nat.lt_succ_self k))
    intro k hk
    rw [level, among_succ]
    by_cases hkc : k < c
    · have hb : Nat.blt k c = true := by simpa [Nat.blt_eq] using hkc
      rw [hb, cond_true, hP.min, ih k hkc, key k hkc.le]
      by_cases h : P (x c)
      · simp only [h, true_and, if_true]; omega
      · simp only [h, false_and, or_false, if_false]; omega
    · have hb : Nat.blt k c = false := by
        rw [Bool.eq_false_iff]; simpa [Nat.blt_eq] using hkc
      have := among_le (P := P) x c
      rw [hb, cond_false, key k (by omega)]
      by_cases h : P (x c)
      · simp only [h, true_and, if_true]; omega
      · simp only [h, false_and, if_false, false_iff]; omega

/-! ## The ladder of a row's smallest values -/

/-- `t 0 < t 1 < … < t K` are the `K + 1` smallest values of the row `s`, each taken once. -/
structure Ladder {ι : Type} [Fintype ι] (s : ι → EReal) (t : ℕ → EReal) (K : ℕ) : Prop where
  mono : ∀ r < K, t r < t (r + 1)
  hit : ∀ r ≤ K, ∃ j, s j = t r
  count : ∀ r ≤ K, Fintype.card {j // s j < t r} = r

variable {ι : Type} [Fintype ι] {s : ι → EReal} {t : ℕ → EReal} {K : ℕ}

theorem Ladder.le_of_le (L : Ladder s t K) {a b : ℕ} (hab : a ≤ b) (hb : b ≤ K) : t a ≤ t b := by
  induction b, hab using Nat.le_induction with
  | base => exact le_rfl
  | succ b _ ih => exact (ih (by omega)).trans (L.mono b (by omega)).le

/-- Nothing lies below the first rung. -/
theorem Ladder.bot (L : Ladder s t K) (j : ι) : ¬ s j < t 0 := fun h => by
  have := L.count 0 (Nat.zero_le _)
  rw [Fintype.card_eq_zero_iff] at this
  exact this.elim ⟨j, h⟩

/-- Nothing lies strictly between two rungs. -/
theorem Ladder.gap (L : Ladder s t K) {r : ℕ} (hr : r < K) (j : ι) : s j < t (r + 1) ↔ s j ≤ t r := by
  classical
  refine ⟨fun h => ?_, fun h => h.trans_lt (L.mono r hr)⟩
  by_contra hne
  obtain ⟨q, hq⟩ := L.hit r hr.le
  have c0 := L.count r hr.le
  have c1 := L.count (r + 1) hr
  rw [Fintype.card_subtype] at c0 c1
  have hsub : insert j (insert q (Finset.univ.filter fun i => s i < t r)) ⊆ Finset.univ.filter fun i => s i < t (r + 1) := by
    intro i hi
    simp only [Finset.mem_insert, Finset.mem_filter, Finset.mem_univ, true_and] at hi ⊢
    rcases hi with rfl | rfl | hi
    · exact h
    · rw [hq]; exact L.mono r hr
    · exact hi.trans (L.mono r hr)
  have hc := Finset.card_le_card hsub
  rw [Finset.card_insert_of_notMem, Finset.card_insert_of_notMem, c0, c1] at hc
  · omega
  · simp [hq]
  · simp only [Finset.mem_insert, Finset.mem_filter, Finset.mem_univ, true_and, not_or]
    exact ⟨fun e => hne (by rw [e, hq]), fun h' => hne h'.le⟩

/-- A rung below the last is taken once. -/
theorem Ladder.once (L : Ladder s t K) {r : ℕ} (hr : r < K) {i j : ι} (hi : s i = t r) (hj : s j = t r) : i = j := by
  classical
  by_contra hne
  have c0 := L.count r hr.le
  have c1 := L.count (r + 1) hr
  rw [Fintype.card_subtype] at c0 c1
  have hsub : insert j (insert i (Finset.univ.filter fun i => s i < t r)) ⊆ Finset.univ.filter fun i => s i < t (r + 1) := by
    intro q hq
    simp only [Finset.mem_insert, Finset.mem_filter, Finset.mem_univ, true_and] at hq ⊢
    rcases hq with rfl | rfl | hq
    · rw [hj]; exact L.mono r hr
    · rw [hi]; exact L.mono r hr
    · exact hq.trans (L.mono r hr)
  have hc := Finset.card_le_card hsub
  rw [Finset.card_insert_of_notMem, Finset.card_insert_of_notMem, c0, c1] at hc
  · omega
  · simp [hi]
  · simp only [Finset.mem_insert, Finset.mem_filter, Finset.mem_univ, true_and, not_or]
    exact ⟨fun e => hne e.symm, by simp [hj]⟩

/-! ## Raising a lower bound -/

/-- `b'` is the least of the values `f i`, over the `i` that are looked at, that exceed `b`; `+∞` if there is none. -/
def Raise {κ : Type} (look : κ → Prop) (f : κ → EReal) (b b' : EReal) : Prop :=
  ∀ v, v ≤ b' ↔ ∀ i, look i → b < f i → v ≤ f i

/-- The whole row but for its own point, which holds the first rung: the rounds reach rung after rung. -/
theorem full_rounds (L : Ladder s t K) (d : ι) (hd : s d = t 0) (b : ℕ → EReal) (h0 : b 0 = ⊥)
    (hb : ∀ r < K, Raise (fun j => j ≠ d) s (b r) (b (r + 1))) : ∀ r, 0 < r → r ≤ K → b r = t r := by
  intro r
  induction r with
  | zero => intro h; omega
  | succ r ih =>
    intro _ hr
    have above : ∀ j, j ≠ d → b r < s j → t (r + 1) ≤ s j := by
      intro j hj hlt
      by_contra hc
      have hle := (L.gap (by omega) j).1 (not_le.1 hc)
      rcases Nat.eq_zero_or_pos r with rfl | hpos
      · exact hj (L.once (r := 0) (by omega) (le_antisymm hle (not_lt.1 (L.bot j))) hd)
      · rw [ih hpos (by omega)] at hlt; exact absurd hlt (not_lt.2 hle)
    apply le_antisymm
    · obtain ⟨j, hj⟩ := L.hit (r + 1) hr
      rw [← hj]
      refine (hb r (by omega) _).1 le_rfl j ?_ ?_
      · rintro rfl
        have := (L.mono 0 (by omega)).trans_le (L.le_of_le (a := 1) (b := r + 1) (by omega) hr)
        rw [← hd, hj] at this
        exact lt_irrefl _ this
      · rw [hj]
        rcases Nat.eq_zero_or_pos r with rfl | hpos
        · rw [h0]; exact bot_le.trans_lt (L.mono 0 (by omega))
        · rw [ih hpos (by omega)]; exact L.mono r (by omega)
    · exact (hb r (by omega) _).2 fun j hj hlt => above j hj hlt

/-- The row dealt to lanes in 32 chunks, each lane's levels made by the chain. A round `r` looks at levels `0 … min r 4`.
    If the fifth level nowhere falls below the bound reached, that bound is the last rung. -/
theorem level_rounds {ℓ : Type} [Fintype ℓ] (x : ℓ → ℕ → EReal) (e : Fin 32 × ℓ ≃ ι) (hx : ∀ c l, x l c.val = s (e (c, l)))
    (L : Ladder s t K) (b : ℕ → EReal) (h0 : b 0 = ⊥) (h0t : ⊥ < t 0)
    (hb : ∀ r ≤ K, Raise (fun i : ℓ × ℕ => i.2 ≤ min r 4) (fun i => level (x i.1) 32 i.2) (b r) (b (r + 1)))
    (hl : ∀ l, ¬ level (x l) 32 4 < b (K + 1)) : b (K + 1) = t K := by
  classical
  have gapL : ∀ r < K, ∀ l, ∀ k < 32, level (x l) 32 k < t (r + 1) ↔ level (x l) 32 k ≤ t r := by
    intro r hr l k hk
    rw [level_iff (lower_lt _) _ _ k hk, level_iff (lower_le _) _ _ k hk]
    have : among (· < t (r + 1)) (x l) 32 = among (· ≤ t r) (x l) 32 :=
      among_congr _ _ fun c hc => by rw [hx ⟨c, hc⟩ l]; exact L.gap hr _
    rw [this]
  have botL : ∀ l, ∀ k < 32, ¬ level (x l) 32 k < t 0 := by
    intro l k hk
    rw [level_iff (lower_lt _) _ _ k hk]
    have : ¬ 0 < among (· < t 0) (x l) 32 := by
      rw [among_pos]
      rintro ⟨c, hc, h⟩
      rw [hx ⟨c, hc⟩ l] at h
      exact L.bot _ h
    omega
  have lower : ∀ r ≤ K, t r ≤ b (r + 1) := by
    intro r
    induction r with
    | zero => exact fun hr => (hb 0 hr _).2 fun i hi _ => not_lt.1 (botL i.1 i.2 (by omega))
    | succ r ih =>
      refine fun hr => (hb (r + 1) hr _).2 fun i hi hlt => not_lt.1 fun hc => ?_
      exact absurd ((gapL r (by omega) i.1 i.2 (by omega)).1 hc) (not_le.2 ((ih (by omega)).trans_lt hlt))
  have reach : ∀ r ≤ K, b (r + 1) = t r := by
    intro r
    induction r with
    | zero =>
      intro hr
      refine le_antisymm ?_ (lower 0 hr)
      obtain ⟨j, hj⟩ := L.hit 0 hr
      obtain ⟨⟨c, l⟩, rfl⟩ := e.surjective j
      have hle : level (x l) 32 0 ≤ t 0 := by
        rw [level_iff (lower_le _) _ _ 0 (by omega)]
        exact (among_pos _ _).2 ⟨c.val, c.isLt, by rw [hx, hj]⟩
      exact ((hb 0 hr _).1 le_rfl (l, 0) (by simp) (by
        rw [h0]; exact h0t.trans_le (not_lt.1 (botL l 0 (by omega))))).trans hle
    | succ r ih =>
      intro hr
      refine le_antisymm ?_ (lower (r + 1) hr)
      obtain ⟨j, hj⟩ := L.hit (r + 1) hr
      obtain ⟨⟨c, l⟩, rfl⟩ := e.surjective j
      set k := among (· < t (r + 1)) (x l) 32 with hk
      have hlt : among (· < t (r + 1)) (x l) 32 < among (· ≤ t (r + 1)) (x l) 32 :=
        among_lt _ _ (fun _ _ h => le_of_lt h) c.val c.isLt (by rw [hx, hj]) (by rw [hx, hj]; exact lt_irrefl _)
      have hk32 : k < 32 := hlt.trans_le (among_le _ _)
      have hle : level (x l) 32 k ≤ t (r + 1) := (level_iff (lower_le _) _ _ k hk32).2 hlt
      have hge : ¬ level (x l) 32 k < t (r + 1) := by
        rw [level_iff (lower_lt _) _ _ k hk32]; exact lt_irrefl _
      have hkr : k ≤ r + 1 := by
        have hc := L.count (r + 1) hr
        rw [Fintype.card_subtype] at hc
        rw [← hc, hk]
        unfold among
        refine Finset.card_le_card_of_injOn (fun i => e (Fin.ofNat 32 i, l)) ?_ ?_
        · intro i hi
          simp only [Finset.coe_filter, Finset.mem_range, Set.mem_setOf_eq] at hi
          simp only [Finset.coe_filter, Finset.mem_univ, true_and, Set.mem_setOf_eq]
          have := hx (Fin.ofNat 32 i) l
          rw [Fin.val_ofNat, Nat.mod_eq_of_lt hi.1] at this
          rw [← this]; exact hi.2
        · intro i hi i' hi' heq
          simp only [Finset.coe_filter, Finset.mem_range, Set.mem_setOf_eq] at hi hi'
          have := congrArg (fun q => (q.1 : Fin 32).val) (e.injective heq)
          simpa [Nat.mod_eq_of_lt hi.1, Nat.mod_eq_of_lt hi'.1] using this
      have hk4 : k ≤ 4 := by
        by_contra h5
        refine hl l (lt_of_lt_of_le ?_ ((L.le_of_le hr le_rfl).trans (lower K le_rfl)))
        rw [level_iff (lower_lt _) _ _ 4 (by omega)]
        omega
      refine ((hb (r + 1) hr _).1 le_rfl (l, k) (by simp only [le_min_iff]; exact ⟨hkr, hk4⟩) ?_).trans hle
      rw [ih (by omega)]
      exact (L.mono r (by omega)).trans_le (not_lt.1 hge)
  exact reach K le_rfl

end Knn.Select
-- ==== Proof.Ranks.lean ====
/- A row in sorted order. A stable sort of the rows of a square is, row by row, a permutation that makes the row
   increasing; where its first entries increase strictly they are the row's ladder (Select); and the entry of rank sixteen
   among the other points is the ladder's last rung, through any increasing map of the distances. -/
module

public import proofs.«01_k».proof.Proof.Select
public import proofs.«01_k».proof.Pre_near_apart
public import proofs.«01_k».proof.ReferenceIdeal
public import Idealize.ShloMosaic.Lib.Pointwise
public import Idealize.ShloMosaic.Lib.SortFacts

@[expose] public section

set_option maxRecDepth 16384

noncomputable section

namespace Knn.Select

open Idealize.ShloMosaic

variable {n : ℕ}

theorem along_row (i j k : Fin n) : (ix2 i j : (⟨2, ![n, n]⟩ : Shape).Idx).along 1 k = ix2 i k := by
  funext a
  match a with
  | ⟨0, _⟩ => rfl
  | ⟨1, _⟩ => rfl

/-- What a sort along the rows of a square reads, by one permutation of each row. -/
theorem sort_at (cmp : EReal → EReal → BitVec 1) (x : (⟨2, ![n, n]⟩ : Shape).Idx → EReal) (i j : Fin n) :
    Host.sort ⟨2, ![n, n]⟩ 1 cmp x (ix2 i j)
      = x (ix2 i (sortedFrom (fun k k' => cmp (x (ix2 i k)) (x (ix2 i k')) == 1#1) j)) := by
  have e : (fun k k' : Fin n => cmp (x ((ix2 i j : (⟨2, ![n, n]⟩ : Shape).Idx).along 1 k)) (x ((ix2 i j : (⟨2, ![n, n]⟩ : Shape).Idx).along 1 k')) == 1#1)
      = fun k k' => cmp (x (ix2 i k)) (x (ix2 i k')) == 1#1 := by
    funext k k'
    rw [along_row, along_row]
  have h : Host.sort ⟨2, ![n, n]⟩ 1 cmp x (ix2 i j)
      = x ((ix2 i j : (⟨2, ![n, n]⟩ : Shape).Idx).along 1 (sortedFrom (fun k k' : Fin n => cmp (x ((ix2 i j : (⟨2, ![n, n]⟩ : Shape).Idx).along 1 k)) (x ((ix2 i j : (⟨2, ![n, n]⟩ : Shape).Idx).along 1 k')) == 1#1) j)) := by
    unfold Host.sort
    rw [dif_pos (show (1 : ℕ) < (⟨2, ![n, n]⟩ : Shape).rank from (by decide : 1 < 2))]
    rfl
  rw [h, e]
  exact congrArg x (along_row i j _)

/-- A sort along the rows, by any comparator that is the order, permutes each row into an increasing one. -/
theorem sort_row (cmp : EReal → EReal → BitVec 1) (hc : ∀ a b, cmp a b = 1#1 ↔ a < b) (x : (⟨2, ![n, n]⟩ : Shape).Idx → EReal)
    (i : Fin n) : ∃ σ : Equiv.Perm (Fin n), (∀ j, Host.sort ⟨2, ![n, n]⟩ 1 cmp x (ix2 i j) = x (ix2 i (σ j))) ∧
      Monotone fun j => x (ix2 i (σ j)) := by
  set B : Fin n → Fin n → Bool := fun k k' => cmp (x (ix2 i k)) (x (ix2 i k')) == 1#1 with hB
  have hlt : ∀ a b, B a b = true ↔ x (ix2 i a) < x (ix2 i b) := fun a b => by rw [hB]; simp [hc]
  have hge : ∀ a b, B a b = false ↔ x (ix2 i b) ≤ x (ix2 i a) := fun a b => by
    rw [← Bool.not_eq_true, hlt, not_lt]
  refine ⟨Equiv.ofBijective (sortedFrom B) ⟨sortedFrom_injective B, sortedFrom_surjective B⟩, fun j => sort_at cmp x i j, fun a b hab => ?_⟩
  rcases eq_or_lt_of_le hab with rfl | h
  · exact le_rfl
  · exact (hge (sortedFrom B b) (sortedFrom B a)).1 (sortedFrom_noInversion B B (fun a b h => (hge _ _).2 ((hlt _ _).1 h).le) (fun _ _ h => h)
      (fun a b c h1 h2 => (hge _ _).2 (((hge _ _).1 h2).trans ((hge _ _).1 h1))) a b h)

/-- The two programs' comparators are the order of the extended reals: zero is one value, and nothing differs from itself. -/
theorem reference_cmp (a b : EReal) : Cert.ReferenceIdeal.comparator_f32_d1 (F := Ideal) a b = 1#1 ↔ a < b := by
  have h0 : ∀ v : EReal, Scalar.select (FloatOps.cmpf (F := Ideal) (φ := .f32) .une v v) (FloatOps.ofBits (F := Ideal) .f32 0x7FC00000#32)
      (Scalar.select (FloatOps.cmpf (F := Ideal) (φ := .f32) .oeq v (FloatOps.ofBits (F := Ideal) .f32 0x00000000#32)) (FloatOps.ofBits (F := Ideal) .f32 0x00000000#32) v) = v := by
    intro v
    have e1 : FloatOps.cmpf (F := Ideal) (φ := .f32) .une v v = 0#1 := by
      show Ideal.cmp .une v v = 0#1
      simp [Ideal.cmp]
    have e2 : FloatOps.cmpf (F := Ideal) (φ := .f32) .oeq v (FloatOps.ofBits (F := Ideal) .f32 0x00000000#32) = BitVec.ofBool (decide (v = 0)) := by
      show Ideal.cmp .oeq v (Ideal.ofBits .f32 0x00000000#32) = _
      rw [Ideal.ofBits_zero_f32]; rfl
    have e3 : (FloatOps.ofBits (F := Ideal) .f32 0x00000000#32 : EReal) = 0 := Ideal.ofBits_zero_f32
    rw [e1, e2, e3]
    by_cases h : v = 0 <;> simp [Scalar.select, h]
  unfold Cert.ReferenceIdeal.comparator_f32_d1
  simp only [h0]
  show BitVec.ofBool (decide (a < b)) = 1#1 ↔ a < b
  by_cases h : a < b <;> simp [h]

theorem pre_cmp (a b : EReal) : Cert.Pre_near_apart.comparator_f32_d1 (F := Ideal) a b = 1#1 ↔ a < b := reference_cmp a b

/-! ## The ladder of a sorted row -/

/-- `σ` sorts the row `f`, and its first eighteen values are different. -/
structure Ranked (f : Fin 4096 → EReal) (σ : Equiv.Perm (Fin 4096)) : Prop where
  mono : Monotone fun j => f (σ j)
  strict : ∀ r : ℕ, r < 17 → f (σ (Fin.ofNat 4096 r)) < f (σ (Fin.ofNat 4096 (r + 1)))

/-- The value of rank `r`. -/
def rung (f : Fin 4096 → EReal) (σ : Equiv.Perm (Fin 4096)) (r : ℕ) : EReal := f (σ (Fin.ofNat 4096 r))

variable {f : Fin 4096 → EReal} {σ : Equiv.Perm (Fin 4096)}

/-- A row ordered alike is ranked alike. -/
theorem Ranked.map (h : Ranked f σ) {g : Fin 4096 → EReal} (hg : ∀ i j, g i ≤ g j ↔ f i ≤ f j) : Ranked g σ :=
  ⟨fun a b hab => (hg _ _).2 (h.mono hab), fun r hr => lt_of_not_ge fun hc => absurd (h.strict r hr) (not_lt.2 ((hg _ _).1 hc))⟩

theorem Ranked.ladder (h : Ranked f σ) : Ladder f (rung f σ) 17 where
  mono := h.strict
  hit := fun r _ => ⟨_, rfl⟩
  count := by
    intro r hr
    have up : ∀ a b : ℕ, a < b → b ≤ 17 → rung f σ a < rung f σ b := by
      intro a b hab
      induction b, hab using Nat.le_induction with
      | base => exact fun hb => h.strict a (by omega)
      | succ b _ ih => exact fun hb => (ih (by omega)).trans (h.strict b (by omega))
    have key : ∀ i : Fin 4096, f (σ i) < rung f σ r ↔ i.val < r := by
      intro i
      constructor
      · intro hlt
        by_contra hc
        refine absurd hlt (not_lt.2 (h.mono (show Fin.ofNat 4096 r ≤ i from ?_)))
        rw [Fin.le_def, Fin.val_ofNat, Nat.mod_eq_of_lt (by omega)]; omega
      · intro hi
        have := up i.val r hi hr
        unfold rung at this
        rwa [show Fin.ofNat 4096 i.val = i from Fin.ext (by rw [Fin.val_ofNat, Nat.mod_eq_of_lt i.isLt])] at this
    have e1 : Fintype.card {j // f j < rung f σ r} = Fintype.card {i : Fin 4096 // i.val < r} :=
      (Fintype.card_congr (σ.subtypeEquiv fun i => (key i).symm)).symm
    rw [e1, Fintype.card_subtype]
    have : (Finset.univ.filter fun i : Fin 4096 => i.val < r) = (Finset.range r).attachFin (fun n hn => by
        have := Finset.mem_range.1 hn; omega) := by
      ext i; simp
    rw [this, Finset.card_attachFin, Finset.card_range]

/-- The point itself, at a distance no other point reaches, holds the first rung. -/
theorem Ranked.own (h : Ranked f σ) {d : Fin 4096} (hd : f d < rung f σ 1) : f d = rung f σ 0 :=
  le_antisymm ((h.ladder.gap (r := 0) (by omega) d).1 hd) (not_lt.1 (h.ladder.bot d))

/-- A sorted row's value of rank `k` has a downward property exactly when more than `k` of the row do. -/
theorem sorted_iff {P : EReal → Prop} (hP : ∀ a b, a ≤ b → P b → P a) {g : Fin 4096 → EReal} {τ : Equiv.Perm (Fin 4096)}
    (hm : Monotone fun j => g (τ j)) (k : Fin 4096) (S : Finset (Fin 4096)) (hS : ∀ j, j ∈ S ↔ P (g j)) :
    P (g (τ k)) ↔ k.val < S.card := by
  have himg : (S.map τ.symm.toEmbedding).card = S.card := Finset.card_map _
  have hmem : ∀ i, i ∈ S.map τ.symm.toEmbedding ↔ P (g (τ i)) := by
    intro i
    rw [Finset.mem_map]
    constructor
    · rintro ⟨j, hj, rfl⟩; simpa using (hS j).1 hj
    · intro hp; exact ⟨τ i, (hS _).2 hp, by simp⟩
  rw [← himg]
  constructor
  · intro hp
    have : (Finset.univ.filter fun i : Fin 4096 => i.val < k.val + 1) ⊆ S.map τ.symm.toEmbedding := by
      intro i hi
      rw [hmem]
      refine hP _ _ (hm (show i ≤ k from ?_)) hp
      simp only [Finset.mem_filter, Finset.mem_univ, true_and] at hi
      rw [Fin.le_def]; omega
    have hc := Finset.card_le_card this
    rw [show (Finset.univ.filter fun i : Fin 4096 => i.val < k.val + 1) = (Finset.range (k.val + 1)).attachFin (fun n hn => by
        have := Finset.mem_range.1 hn; omega) from by ext i; simp, Finset.card_attachFin, Finset.card_range] at hc
    omega
  · intro hk
    by_contra hp
    have : S.map τ.symm.toEmbedding ⊆ (Finset.range k.val).attachFin (fun n hn => by
        have := Finset.mem_range.1 hn; omega) := by
      intro i hi
      rw [hmem] at hi
      rw [Finset.mem_attachFin, Finset.mem_range]
      by_contra hc
      exact hp (hP _ _ (hm (show k ≤ i by rw [Fin.le_def]; omega)) hi)
    have hc := Finset.card_le_card this
    rw [Finset.card_attachFin, Finset.card_range] at hc
    omega

/-- The threshold: of the others, seen through an increasing map, the value of rank sixteen is the last rung's. -/
theorem Ranked.threshold (h : Ranked f σ) {d : Fin 4096} (hd : f d = rung f σ 0) (φ : EReal → EReal) (hφ : Monotone φ)
    {τ : Equiv.Perm (Fin 4096)} (hm : Monotone fun j => if τ j = d then ⊤ else φ (f (τ j))) (hne : φ (rung f σ 17) ≠ ⊤) :
    (if τ 16 = d then ⊤ else φ (f (τ 16))) = φ (rung f σ 17) := by
  classical
  have L := h.ladder
  set g : Fin 4096 → EReal := fun j => if j = d then ⊤ else φ (f j) with hg
  have hm' : Monotone fun j => g (τ j) := hm
  have c17 := L.count 17 le_rfl
  rw [Fintype.card_subtype] at c17
  have hd17 : f d < rung f σ 17 := by
    rw [hd]; exact (L.mono 0 (by omega)).trans_le (L.le_of_le (by omega) le_rfl)
  change g (τ 16) = _
  apply le_antisymm
  · have := (sorted_iff (P := fun v => v ≤ φ (rung f σ 17)) (fun a b hab hb => hab.trans hb) hm' 16
      (Finset.univ.filter fun j => g j ≤ φ (rung f σ 17)) (fun j => by simp)).2
    refine this ?_
    obtain ⟨q, hq⟩ := L.hit 17 le_rfl
    have hsub : insert q ((Finset.univ.filter fun j => f j < rung f σ 17).erase d) ⊆
        Finset.univ.filter fun j => g j ≤ φ (rung f σ 17) := by
      intro j hj
      simp only [Finset.mem_insert, Finset.mem_erase, Finset.mem_filter, Finset.mem_univ, true_and] at hj ⊢
      rcases hj with rfl | ⟨hjd, hj⟩
      · have : j ≠ d := by rintro rfl; rw [hq] at hd17; exact lt_irrefl _ hd17
        simp only [hg, if_neg this, hq, le_refl]
      · simp only [hg, if_neg hjd]; exact hφ hj.le
    have hc := Finset.card_le_card hsub
    rw [Finset.card_insert_of_notMem (by simp [hq]), Finset.card_erase_of_mem (by simp [hd17]), c17] at hc
    exact lt_of_lt_of_le (by decide) hc
  · refine not_lt.1 fun hlt => ?_
    have := (sorted_iff (P := fun v => v < φ (rung f σ 17)) (fun a b hab hb => hab.trans_lt hb) hm' 16
      (Finset.univ.filter fun j => g j < φ (rung f σ 17)) (fun j => by simp)).1 hlt
    have hsub : (Finset.univ.filter fun j => g j < φ (rung f σ 17)) ⊆ (Finset.univ.filter fun j => f j < rung f σ 17).erase d := by
      intro j hj
      simp only [Finset.mem_erase, Finset.mem_filter, Finset.mem_univ, true_and] at hj ⊢
      by_cases hjd : j = d
      · simp only [hg, if_pos hjd] at hj; exact absurd le_top (not_le.2 hj)
      · simp only [hg, if_neg hjd] at hj
        exact ⟨hjd, lt_of_not_ge fun hc => absurd (hφ hc) (not_le.2 hj)⟩
    have hc := Finset.card_le_card hsub
    rw [Finset.card_erase_of_mem (by simp [hd17]), c17] at hc
    have h16 : ((16 : Fin 4096) : ℕ) = 16 := rfl
    omega

end Knn.Select

end
-- ==== Proof.Points.lean ====
/- The points behind the squared distances. A row whose squared distances to the others take three values has only finite
   coordinates; over finite points the reference's squared distances, and the scaled ones of the kernel, are real. -/
module

public import Idealize.ShloMosaic.Lib.Pointwise
public import Idealize.ShloMosaic.PureOps.Ideal
public import Idealize.ShloMosaic.PureOps.Ideal.Laws

@[expose] public section

noncomputable section

namespace Knn.Points

open Idealize.ShloMosaic

/-! ## The constants -/

theorem word_two : Ideal.ofBits .f32 0x40000000#32 = ((2 : ℝ) : EReal) := by
  simp [Ideal.ofBits, Ideal.ieee, -EReal.coe_mul]; norm_num
theorem word_900 : Ideal.ofBits .f32 0x44610000#32 = ((900 : ℝ) : EReal) := by
  simp [Ideal.ofBits, Ideal.ieee, -EReal.coe_mul]; norm_num
theorem word_neg1800 : Ideal.ofBits .f32 0xC4E10000#32 = ((-1800 : ℝ) : EReal) := by
  simp [Ideal.ofBits, Ideal.ieee, -EReal.coe_mul, -EReal.coe_neg]; norm_num
theorem word_30 : Ideal.ofBits .f32 0x41F00000#32 = ((30 : ℝ) : EReal) := by
  simp [Ideal.ofBits, Ideal.ieee, -EReal.coe_mul]; norm_num
theorem word_4096 : Ideal.ofBits .f32 0x45800000#32 = ((4096 : ℝ) : EReal) := by
  simp [Ideal.ofBits, Ideal.ieee, -EReal.coe_mul]; norm_num
theorem word_4095 : Ideal.ofBits .f32 0x457FF000#32 = ((4095 : ℝ) : EReal) := by
  simp [Ideal.ofBits, Ideal.ieee, -EReal.coe_mul]; norm_num
theorem word_neg1 : Ideal.ofBits .f32 0xBF800000#32 = ((-1 : ℝ) : EReal) := by
  simp [Ideal.ofBits, Ideal.ieee, -EReal.coe_mul, -EReal.coe_neg]; norm_num
theorem word_top : Ideal.ofBits .f32 0x7F800000#32 = ⊤ := by simp [Ideal.ofBits, Ideal.ieee]
theorem word_bot : Ideal.ofBits .f32 0xFF800000#32 = ⊥ := by simp [Ideal.ofBits, Ideal.ieee]
/-- The clip is a positive number. -/
theorem word_clip : ∃ c : ℝ, 0 < c ∧ Ideal.ofBits .f32 0x2B8CBCCC#32 = (c : EReal) := by
  refine ⟨_, ?_, by simp only [Ideal.ofBits, Ideal.ieee]; simp [-EReal.coe_mul]; rfl⟩
  norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Squared distances -/

section
variable {n d : ℕ} (x : Fin n → Fin d → EReal)

/-- The squared distance as the reference computes it. -/
def gap (i j : Fin n) : EReal := ∑ k, x i k * x i k + ∑ k, x j k * x j k - ((2 : ℝ) : EReal) * ∑ k, x i k * x j k

theorem sq_nonneg' (a : EReal) : 0 ≤ a * a := by
  induction a with
  | bot => simp
  | top => simp
  | coe r => rw [← EReal.coe_mul]; exact_mod_cast mul_self_nonneg r

theorem gap_infinite {i : Fin n} {k : Fin d} (h : x i k = ⊤ ∨ x i k = ⊥) (j : Fin n) : gap x i j = ⊤ ∨ gap x i j = ⊥ := by
  have h1 : ∑ k, x i k * x i k = ⊤ := by
    refine top_le_iff.1 ?_
    have := Finset.single_le_sum (f := fun k => x i k * x i k) (fun k _ => sq_nonneg' (x i k)) (Finset.mem_univ k)
    rcases h with h | h <;> simpa [h] using this
  have h2 : (0 : EReal) ≤ ∑ k, x j k * x j k := Finset.sum_nonneg fun k _ => sq_nonneg' _
  unfold gap
  rw [h1, EReal.top_add_of_ne_bot (fun hb => by rw [hb] at h2; exact absurd h2 (by simp)), sub_eq_add_neg]
  by_cases hY : -(((2 : ℝ) : EReal) * ∑ k, x i k * x j k) = ⊥
  · right; rw [hY]; rfl
  · left; exact EReal.top_add_of_ne_bot hY

/-- Three different squared distances from one point leave it no infinite coordinate. -/
theorem finite_of_three {i a b c : Fin n} (hab : gap x i a < gap x i b) (hbc : gap x i b < gap x i c) (k : Fin d) :
    x i k ≠ ⊤ ∧ x i k ≠ ⊥ := by
  by_contra hc
  have h : x i k = ⊤ ∨ x i k = ⊥ := by
    by_contra h'; push Not at h'; exact hc h'
  rcases gap_infinite x h b with hb | hb
  · rw [hb] at hbc; exact absurd le_top (not_le.2 hbc)
  · rw [hb] at hab; exact absurd bot_le (not_le.2 hab)
end

section
variable {n d : ℕ} (X : Fin n → Fin d → ℝ)

/-- The squared length of a point. -/
def len (j : Fin n) : ℝ := ∑ k, X j k * X j k
/-- The squared distance of two points. -/
def dist2 (i j : Fin n) : ℝ := ∑ k, (X i k - X j k) ^ 2

theorem dist2_eq (i j : Fin n) : dist2 X i j = len X i + len X j - 2 * ∑ k, X i k * X j k := by
  unfold dist2 len
  rw [Finset.mul_sum, ← Finset.sum_add_distrib, ← Finset.sum_sub_distrib]
  exact Finset.sum_congr rfl fun k _ => by ring

theorem dist2_nonneg (i j : Fin n) : 0 ≤ dist2 X i j := Finset.sum_nonneg fun k _ => by positivity
theorem dist2_self (i : Fin n) : dist2 X i i = 0 := by simp [dist2]

theorem gap_real (i j : Fin n) : gap (fun i k => (X i k : EReal)) i j = (dist2 X i j : EReal) := by
  unfold gap
  simp only [← EReal.coe_mul, ← coe_sum, ← EReal.coe_add, ← EReal.coe_sub]
  rw [dist2_eq]; rfl

/-- The kernel's scaled distances, the square of the row's own length left out. -/
theorem scaled_real (i j : Fin n) : ∑ k, ((900 : ℝ) : EReal) * ((X j k : EReal) * (X j k : EReal))
      + ∑ k, (X i k : EReal) * ((-1800 : ℝ) : EReal) * (X j k : EReal)
    = ((900 * dist2 X i j - 900 * len X i : ℝ) : EReal) := by
  simp only [← EReal.coe_mul, ← coe_sum, ← EReal.coe_add]
  rw [dist2_eq]; unfold len
  congr 1
  rw [← Finset.mul_sum]
  have : ∑ k, X i k * -1800 * X j k = -1800 * ∑ k, X i k * X j k := by
    rw [Finset.mul_sum]; exact Finset.sum_congr rfl fun k _ => by ring
  rw [this]; ring

/-! ## Distances and weights -/

/-- The root of a clipped value. -/
def root (c v : EReal) : EReal := Ideal.sqrt (max c v)

theorem sqrt_mono : Monotone Ideal.sqrt := by
  intro a b h
  induction a with
  | bot => simp
  | top => rw [top_le_iff.1 h]
  | coe r =>
    induction b with
    | bot => simp at h
    | top => simp
    | coe q =>
      have h' : r ≤ q := by exact_mod_cast h
      rw [Ideal.sqrt_coe, Ideal.sqrt_coe]
      split_ifs with h1 h2 h2
      · exact le_rfl
      · exact bot_le
      · exact absurd (lt_of_le_of_lt h' h2) h1
      · exact_mod_cast Real.sqrt_le_sqrt h'

theorem root_mono (c : EReal) : Monotone (root c) := fun _ _ h => sqrt_mono (max_le_max le_rfl h)

theorem root_real {c v : ℝ} (hc : 0 ≤ c) (h : c ≤ v) : root c v = (Real.sqrt v : EReal) := by
  unfold root
  rw [max_eq_right (by exact_mod_cast h), Ideal.sqrt_coe, if_neg (not_lt.2 (hc.trans h))]

/-- Above the clip the root keeps the order strictly. -/
theorem root_lt {c u v : ℝ} (hc : 0 ≤ c) (hu : c ≤ u) (hv : c ≤ v) : root c u < root c v ↔ (u : EReal) < (v : EReal) := by
  rw [root_real hc hu, root_real hc hv, EReal.coe_lt_coe_iff, EReal.coe_lt_coe_iff]
  exact Real.sqrt_lt_sqrt_iff (hc.trans hu)

/-- The weight of a pair at squared distance `v`. -/
def weight (v : ℝ) : ℝ := Real.exp (30 * (1 - Real.sqrt v))

theorem weight_pos (v : ℝ) : 0 < weight v := Real.exp_pos _

theorem weight_reference {c v : ℝ} (hc : 0 ≤ c) (h : c ≤ v) :
    Ideal.exp (((30 : ℝ) : EReal) * (1 - root c v)) = (weight v : EReal) := by
  rw [root_real hc h, ← EReal.coe_one, ← EReal.coe_sub, ← EReal.coe_mul, Ideal.exp_coe]; rfl

theorem weight_kernel {v l : ℝ} (h : 0 ≤ v) :
    Ideal.exp (((30 : ℝ) : EReal) - Ideal.sqrt (((900 * l : ℝ) : EReal) + ((900 * v - 900 * l : ℝ) : EReal))) = (weight v : EReal) := by
  rw [← EReal.coe_add, show 900 * l + (900 * v - 900 * l) = 30 ^ 2 * v by ring, Ideal.sqrt_coe,
    if_neg (not_lt.2 (by positivity)), Real.sqrt_mul (by positivity), Real.sqrt_sq (by norm_num), ← EReal.coe_sub, Ideal.exp_coe]
  unfold weight
  congr 2; ring
end

end Knn.Points

end
-- ==== Proof.Bound.lean ====
/- The bound a block of rows goes on with is, in every row, the distance of rank seventeen (the point itself has rank
   nought), whichever way the kernel's branch goes. -/
module

public import proofs.«01_k».proof.Proof.Body
public import proofs.«01_k».proof.Proof.Ranks
public import proofs.«01_k».proof.Proof.Points
public import Idealize.ShloMosaic.Lib.Pointwise

@[expose] public section

set_option maxRecDepth 16384

noncomputable section

namespace Cert.KernelIdeal.Knn

open Idealize.ShloMosaic
open Cert.KernelIdeal.Gen
open _root_.Knn.Select _root_.Knn.Points

variable (s : FVec Ideal S256x4096 .f32) (p : Fin 256)

/-! ## The network, entry by entry -/

/-- Lane `l` of a row's chunks. -/
def lane (l : Fin 128) (c : ℕ) : EReal := if h : c < 32 then s (ix2 p ⟨128 * c + l.val, by omega⟩) else ⊤

theorem chunk_at (c : ℕ) (l : Fin 128) : chunk s c (ix2 p l) = lane s p l c := by
  unfold chunk lane
  by_cases h : c < 32
  · rw [dif_pos h, dif_pos h]; pointwise []
  · rw [dif_neg h, dif_neg h]; exact word_top

theorem carry_at (m : ℕ → FVec Ideal S256x128 .f32) (q : FVec Ideal S256x128 .f32) (l : Fin 128) (k : ℕ) :
    carry m q k (ix2 p l) = past (fun j => m j (ix2 p l)) (q (ix2 p l)) k := by
  induction k with
  | zero => rfl
  | succ k ih => rw [past, ← ih]; rfl

theorem lv_at (c k : ℕ) (l : Fin 128) : lv s c k (ix2 p l) = level (lane s p l) c k := by
  induction c generalizing k with
  | zero => exact word_top
  | succ c ih =>
    have hm : (fun j => lv s c j (ix2 p l)) = level (lane s p l) c := funext ih
    unfold lv level
    cases Nat.blt k c
    · show carry (lv s c) (chunk s c) k (ix2 p l) = _
      rw [carry_at, hm, chunk_at]; rfl
    · show min (lv s c k (ix2 p l)) (carry (lv s c) (chunk s c) k (ix2 p l)) = _
      rw [carry_at, hm, chunk_at, ih]; rfl

theorem treeMin_at (f : ℕ → FVec Ideal S256x128 .f32) (r : ℕ) (l : Fin 128) (v : EReal) :
    v ≤ treeMin f r (ix2 p l) ↔ ∀ k ≤ min r 4, v ≤ f k (ix2 p l) := by
  have two : ∀ a b : FVec Ideal S256x128 .f32, v ≤ minimumf a b (ix2 p l) ↔ v ≤ a (ix2 p l) ∧ v ≤ b (ix2 p l) :=
    fun a b => le_min_iff
  match r with
  | 0 => simp [treeMin]
  | 1 =>
    rw [treeMin, two]
    exact ⟨fun h k hk => by have hk : k ≤ 1 := hk.trans (by decide); interval_cases k <;> tauto, fun h => ⟨h 0 (by omega), h 1 (by omega)⟩⟩
  | 2 =>
    rw [treeMin, two, two]
    exact ⟨fun h k hk => by have hk : k ≤ 2 := hk.trans (by decide); interval_cases k <;> tauto, fun h => ⟨⟨h 0 (by omega), h 1 (by omega)⟩, h 2 (by omega)⟩⟩
  | 3 =>
    rw [treeMin, two, two, two]
    exact ⟨fun h k hk => by have hk : k ≤ 3 := hk.trans (by decide); interval_cases k <;> tauto,
      fun h => ⟨⟨h 0 (by omega), h 1 (by omega)⟩, h 2 (by omega), h 3 (by omega)⟩⟩
  | n + 4 =>
    have e : min (n + 4) 4 = 4 := by omega
    rw [treeMin, two, two, two, two, e] <;> try omega
    exact ⟨fun h k hk => by interval_cases k <;> tauto,
      fun h => ⟨⟨⟨h 0 (by omega), h 1 (by omega)⟩, h 2 (by omega), h 3 (by omega)⟩, h 4 (by omega)⟩⟩

/-! ## The rounds of the two searches -/

theorem fltOf_at (lb : FVec Ideal S256x1 .f32) (k : ℕ) (l : Fin 128) :
    fltOf s lb k (ix2 p l) = if lb (ix2 p 0) < lv s 32 k (ix2 p l) then lv s 32 k (ix2 p l) else Ideal.ofBits .f32 0x7F800000#32 := by
  unfold fltOf
  generalize lv s 32 k = y
  pointwise []

theorem rowMin_at (a : FVec Ideal S256x128 .f32) (v : EReal) :
    v ≤ shapeCast S256x1 (multiReduction (φ := .f32) .minimumf [1] S256 a 0x7F800000#32 reduces_S256x128_S256 (.inl rfl) rfl)
      shapeCasts_S256_S256x1 (ix2 p 0) ↔ ∀ l, v ≤ a (ix2 p l) := by
  pointwise []
  rw [Finset.le_fold_min, word_top]; simp

theorem fullMin_at (a : FVec Ideal S256x4096 .f32) (v : EReal) :
    v ≤ shapeCast S256x1 (multiReduction (φ := .f32) .minimumf [1] S256 a 0x7F800000#32 reduces_S256x4096_S256 (.inl rfl) rfl)
      shapeCasts_S256_S256x1 (ix2 p 0) ↔ ∀ j, v ≤ a (ix2 p j) := by
  pointwise []
  rw [Finset.le_fold_min, word_top]; simp

/-- One round over the levels. -/
theorem lbv_raise (r : ℕ) : Raise (fun i : Fin 128 × ℕ => i.2 ≤ min r 4) (fun i => level (lane s p i.1) 32 i.2)
    (lbv s r (ix2 p 0)) (lbv s (r + 1) (ix2 p 0)) := by
  intro v
  rw [lbv, lbrOf, rowMin_at]
  simp only [treeMin_at, fltOf_at, lv_at, word_top]
  constructor
  · rintro h ⟨l, k⟩ hk hlt
    have := h l k hk
    rwa [if_pos hlt] at this
  · intro h l k hk
    split_ifs with hlt
    · exact h (l, k) hk hlt
    · exact le_top

theorem aboveBd_at (e : IVec S256x4096 1) (lb : FVec Ideal S256x1 .f32) (j : Fin 4096) :
    aboveBd (offDiag s e) lb (ix2 p j) = if e (ix2 p j) = 1#1 then ⊤ else if lb (ix2 p 0) < s (ix2 p j) then s (ix2 p j) else ⊤ := by
  pointwise [aboveBd, offDiag]
  rw [word_top]
  unfold Scalar.select
  by_cases h : e (ix2 p j) = 1#1 <;> simp [h]

/-- One round over all columns. -/
theorem fullv_raise (e : IVec S256x4096 1) (d : Fin 4096) (he : ∀ j, e (ix2 p j) = 1#1 ↔ j = d) (r : ℕ) :
    Raise (fun j => j ≠ d) (fun j => s (ix2 p j)) (fullv (offDiag s e) r (ix2 p 0)) (fullv (offDiag s e) (r + 1) (ix2 p 0)) := by
  intro v
  rw [fullv, fullMin_at]
  simp only [aboveBd_at, he]
  constructor
  · intro h j hj hlt
    have := h j
    rwa [if_neg hj, if_pos hlt] at this
  · intro h j
    split_ifs with h1 h2
    · exact le_top
    · exact h j h1 h2
    · exact le_top

/-! ## The branch -/

/-- The branch is not taken only if no row's fifth level lies below its bound. -/
theorem overflow_at (h : ¬ overflows s = 1#1) (l : Fin 128) : ¬ lv s 32 4 (ix2 p l) < lbv s 18 (ix2 p 0) := by
  intro hlt
  apply h
  have h1 : (0 : EReal) < overflow s := by
    unfold overflow
    generalize lv s 32 4 = y at hlt ⊢
    generalize lbv s 18 = b at hlt ⊢
    pointwise []
    rw [Finset.lt_fold_max]
    right
    exact ⟨(p, l), Finset.mem_univ _, by simp [hlt, Ideal.ofBits_one_f32]⟩
  unfold overflows
  generalize overflow s = o at h1
  have h2 : Scalar.cmpf (F := Ideal) (φ := .f32) .ogt o (Scalar.ofBits .f32 0x00000000#32) = 1#1 :=
    (WordCmp.ofBool_decide_eq_one_iff _).2 (by rw [show (Scalar.ofBits .f32 0x00000000#32 : Ideal .f32) = 0 from Ideal.ofBits_zero_f32]; exact h1)
  rw [h2]
  rfl

/-- In a row whose eighteen smallest values have no two equal, the bound is the value of rank seventeen. -/
theorem bound_at (e : IVec S256x4096 1) (d : Fin 4096) (he : ∀ j, e (ix2 p j) = 1#1 ↔ j = d) (σ : Equiv.Perm (Fin 4096))
    (h : Ranked (fun j => s (ix2 p j)) σ) (hd : s (ix2 p d) = rung (fun j => s (ix2 p j)) σ 0) (hbot : ∀ j, ⊥ < s (ix2 p j)) :
    bound s e (ix2 p 0) = rung (fun j => s (ix2 p j)) σ 17 := by
  unfold bound
  by_cases ho : overflows s = 1#1
  · rw [if_pos ho]
    exact full_rounds h.ladder d hd (fun r => fullv (offDiag s e) r (ix2 p 0)) word_bot (fun r _ => fullv_raise s p e d he r)
      17 (by omega) le_rfl
  · rw [if_neg ho]
    refine level_rounds (lane s p) (finProdFinEquiv.trans (finCongr (by norm_num))) ?_ h.ladder (fun r => lbv s r (ix2 p 0)) word_bot
      (hbot _) (fun r _ => lbv_raise s p r) (fun l => ?_)
    · intro c l
      unfold lane
      rw [dif_pos c.isLt]
      congr 2
      ext
      simp [finProdFinEquiv]; omega
    · rw [← lv_at]; exact overflow_at s p ho l

end Cert.KernelIdeal.Knn

end
-- ==== Proof.Spec.lean ====
/- What both programs compute, over real points: each row's sixteen neighbours (those nearer than the distance of rank
   seventeen), the weights of those of the row's class and of the others, the row's loss, and the rows that count. -/
module

public import proofs.«01_k».proof.Proof.Ranks
public import proofs.«01_k».proof.Proof.Points

@[expose] public section

noncomputable section

namespace Knn

open Idealize.ShloMosaic Knn.Select Knn.Points

/-- The clip of the squared distances, a positive real. -/
def clip : ℝ := word_clip.choose
theorem clip_pos : 0 < clip := word_clip.choose_spec.1
theorem word_is_clip : Ideal.ofBits .f32 0x2B8CBCCC#32 = (clip : EReal) := word_clip.choose_spec.2

variable (X : Fin 4096 → Fin 512 → ℝ) (t : Fin 4096 → BitVec 32) (σ : Fin 4096 → Equiv.Perm (Fin 4096))

/-- The points: ranked strictly as far as rank seventeen, away from each other by the clip, in one of 64 classes. -/
structure Apart : Prop where
  ranked : ∀ i, Ranked (fun j => (dist2 X i j : EReal)) (σ i)
  clear : ∀ i, (clip : EReal) ≤ rung (fun j => (dist2 X i j : EReal)) (σ i) 1
  classes : ∀ i, (t i).toNat < 64

/-- The squared distance of rank seventeen from point `i`. -/
def reach (i : Fin 4096) : ℝ := dist2 X i (σ i (Fin.ofNat 4096 17))

/-- `j` is one of the neighbours of `i`. -/
def Neighbour (i j : Fin 4096) : Prop := j ≠ i ∧ dist2 X i j < reach X σ i

open Classical in
/-- The weight of the neighbours of `i` in its class. -/
def posSum (i : Fin 4096) : ℝ := ∑ j, if t i = t j ∧ Neighbour X σ i j then weight (dist2 X i j) else 0
open Classical in
/-- The weight of the neighbours of `i` in other classes. -/
def negSum (i : Fin 4096) : ℝ := ∑ j, if t i ≠ t j ∧ Neighbour X σ i j then weight (dist2 X i j) else 0

/-- Point `j` is another of the class of `i`. -/
def Mate (i j : Fin 4096) : Prop := t i = t j ∧ j ≠ i

/-- Row `i` counts: its class has another member, and so has some other class. -/
def Counts (i : Fin 4096) : Prop := (∃ j, Mate t i j) ∧ ∃ j, t i ≠ t j

open Classical in
/-- The first of the class of `i` besides itself. -/
def firstMate (i : Fin 4096) : Fin 4096 := if h : ∃ j, Mate t i j then Fin.find (Mate t i) h else i

open Classical in
/-- The positive weight of row `i`: its neighbours', or failing any the first mate's. -/
def posWeight (i : Fin 4096) : ℝ :=
  if ∃ j, t i = t j ∧ Neighbour X σ i j then posSum X t σ i else weight (dist2 X i (firstMate t i))

/-- The loss of row `i`. -/
def lossOf (i : Fin 4096) : EReal :=
  -Ideal.log (Ideal.div (posWeight X t σ i : EReal) ((posWeight X t σ i : EReal) + (negSum X t σ i : EReal)))

open Classical in
/-- How many rows count. -/
def total : ℕ := (Finset.univ.filter fun i => Counts t i).card
open Classical in
/-- How many of them have a loss below 0.6. -/
def good : ℕ := (Finset.univ.filter fun i => Counts t i ∧ lossOf X t σ i < Ideal.ofBits .f32 0x3F19999A#32).card
open Classical in
/-- The losses of the rows that count, summed. -/
def lossSum : EReal := ∑ i, if Counts t i then lossOf X t σ i else 0

/-- The first result. -/
def meanOf : EReal := Ideal.div (lossSum X t σ) ((max (total t) 1 : ℕ) : ℝ)
/-- The second result. -/
def accuracyOf : EReal := Ideal.div ((good X t σ : ℕ) : ℝ) (Ideal.ofBits .f32 0x45800000#32)

variable {X t σ}

theorem firstMate_spec {i j : Fin 4096} (h : Mate t i j) : Mate t i (firstMate t i) ∧ ∀ k, Mate t i k → firstMate t i ≤ k := by
  classical
  have hx : ∃ j, Mate t i j := ⟨j, h⟩
  unfold firstMate
  rw [dif_pos hx]
  exact ⟨Fin.find_spec hx, fun k hk => Fin.find_le_of_pos hx hk⟩

theorem firstMate_eq {i m : Fin 4096} (h : Mate t i m) (hm : ∀ k, Mate t i k → m ≤ k) : firstMate t i = m :=
  le_antisymm ((firstMate_spec h).2 m h) (hm _ (firstMate_spec h).1)

namespace Apart
variable (A : Apart X t σ) (i : Fin 4096)
include A

theorem own : (dist2 X i i : EReal) = rung (fun j => (dist2 X i j : EReal)) (σ i) 0 := by
  refine (A.ranked i).own (d := i) (lt_of_lt_of_le ?_ (A.clear i))
  rw [dist2_self]
  exact_mod_cast clip_pos

theorem far {j : Fin 4096} (h : j ≠ i) : clip ≤ dist2 X i j := by
  have L := (A.ranked i).ladder
  have h1 : (clip : EReal) ≤ (dist2 X i j : EReal) := by
    refine (A.clear i).trans (not_lt.1 fun hlt => h ?_)
    have hle := (L.gap (r := 0) (by omega) j).1 hlt
    exact L.once (r := 0) (by omega) (le_antisymm hle (not_lt.1 (L.bot j))) (A.own i)
  exact_mod_cast h1

theorem reach_far : clip ≤ reach X σ i := by
  have h : (clip : EReal) ≤ (reach X σ i : EReal) := (A.clear i).trans ((A.ranked i).mono (show Fin.ofNat 4096 1 ≤ Fin.ofNat 4096 17 by decide))
  exact_mod_cast h

theorem rung_last : rung (fun j => (dist2 X i j : EReal)) (σ i) 17 = (reach X σ i : EReal) := rfl
end Apart

end Knn

end
-- ==== Proof.Rows.lean ====
/- A block of 256 rows read over real points: the neighbours of a row and the weights they carry. -/
module

public import proofs.«01_k».proof.Proof.Bound
public import proofs.«01_k».proof.Proof.Spec

@[expose] public section

set_option maxRecDepth 16384

noncomputable section

namespace Cert.KernelIdeal.Knn

open Idealize.ShloMosaic
open Cert.KernelIdeal.Gen
open _root_.Knn _root_.Knn.Select _root_.Knn.Points

/-! ## The block's values at an index -/

section
variable (i : grid0.Coords) (v0 : FVec Ideal S4096x512 .f32) (v5 : FVec Ideal S256x512 .f32) (p : Fin 256) (j : Fin 4096)

theorem norm_at : k0_pay6 (F := Ideal) v0 (ix2 0 j) = ∑ k, ((900 : ℝ) : EReal) * (v0 (ix2 j k) * v0 (ix2 j k)) := by
  pointwise [k0_pay6]
  simp only [word_900]

theorem own_at : k0_pay14 (F := Ideal) v5 (ix2 p 0) = (∑ k, v5 (ix2 p k) * v5 (ix2 p k)) * ((900 : ℝ) : EReal) := by
  pointwise [k0_pay14]
  rw [word_900]

theorem shifted_at (n : FVec Ideal S1x4096 .f32) :
    k0_pay15 v0 v5 n (ix2 p j) = n (ix2 0 j) + ∑ k, v5 (ix2 p k) * ((-1800 : ℝ) : EReal) * v0 (ix2 j k) := by
  pointwise [k0_pay15]
  simp only [word_neg1800]

theorem self_at : k0_pay16 i (ix2 p j)
    = IntOp.cmpi .eq (BitVec.ofNat 32 j.val) (IntOp.addi (Scalar.muli (BitVec.ofNat 32 (i 0).val) 256#32) (BitVec.ofNat 32 p.val)) := by
  pointwise [k0_pay16]

theorem pull_at (n : FVec Ideal S256x1 .f32) (s : FVec Ideal S256x4096 .f32) :
    k0_pay297 n s (ix2 p j) = Ideal.exp (((30 : ℝ) : EReal) - Ideal.sqrt (n (ix2 p 0) + s (ix2 p j))) := by
  pointwise [k0_pay297]
  rw [word_30]

theorem taken_at (n b : FVec Ideal S256x1 .f32) (s : FVec Ideal S256x4096 .f32) (e : IVec S256x4096 1) :
    k0_pay298 n s e b (ix2 p j) = Scalar.select
      (IntOp.andi (BitVec.ofBool (decide (s (ix2 p j) < b (ix2 p 0)))) (IntOp.xori (e (ix2 p j)) 1#1)) (k0_pay297 n s (ix2 p j)) 0 := by
  pointwise [k0_pay298]

theorem alike_at (a : Vec Ideal S1x4096 .i32) (b : Vec Ideal S256x1 .i32) :
    k0_pay299 (F := Ideal) a b (ix2 p j) = BitVec.ofBool (decide (a (ix2 0 j) = b (ix2 p 0))) := by
  pointwise [k0_pay299]
  exact WordCmp.cmpi_eq_eq _ _

theorem inside_at (a : FVec Ideal S256x4096 .f32) (b : IVec S256x4096 1) :
    k0_pay300 a b (ix2 p 0) = ∑ j, Scalar.select (b (ix2 p j)) (a (ix2 p j)) 0 := by
  pointwise [k0_pay300]

theorem outside_at (a : FVec Ideal S256x4096 .f32) (b : IVec S256x4096 1) :
    k0_pay301 a b (ix2 p 0) = ∑ j, a (ix2 p j) - k0_pay300 a b (ix2 p 0) := by
  pointwise [k0_pay301]

theorem some_at (a : FVec Ideal S256x4096 .f32) (b : IVec S256x4096 1) :
    k0_pay302 a b (ix2 p 0) = BitVec.ofBool (decide (0 < k0_pay300 a b (ix2 p 0))) := by
  pointwise [k0_pay302]
end

/-- Row `p` of block `b` among all the points. -/
def rowOf (b : Fin 16) (p : Fin 256) : Fin 4096 := ⟨256 * b.val + p.val, by omega⟩

theorem row_word (b : ℕ) (hb : b < 16) (p : Fin 256) : IntOp.addi (Scalar.muli (BitVec.ofNat 32 b) 256#32) (BitVec.ofNat 32 p.val)
    = BitVec.ofNat 32 (256 * b + p.val) := by
  show BitVec.ofNat 32 b * 256#32 + BitVec.ofNat 32 p.val = _
  rw [BitVec.mul_comm, ← BitVec.ofNat_mul, ← BitVec.ofNat_add]

theorem word_inj {a b : ℕ} (ha : a < 2 ^ 32) (hb : b < 2 ^ 32) : BitVec.ofNat 32 a = BitVec.ofNat 32 b ↔ a = b := by
  refine ⟨fun h => ?_, fun h => by rw [h]⟩
  have h' := congrArg BitVec.toNat h
  rwa [BitVec.toNat_ofNat, BitVec.toNat_ofNat, Nat.mod_eq_of_lt ha, Nat.mod_eq_of_lt hb] at h'

/-! ## Over real points -/

variable {X : Fin 4096 → Fin 512 → ℝ} {t : Fin 4096 → BitVec 32} {σ : Fin 4096 → Equiv.Perm (Fin 4096)}

section
variable (i : grid0.Coords) (b : Fin 16) (hb : (i 0).val = b.val) (v0 : FVec Ideal S4096x512 .f32) (v5 : FVec Ideal S256x512 .f32)
  (h0 : ∀ j k, v0 (ix2 j k) = (X j k : EReal)) (h5 : ∀ p k, v5 (ix2 p k) = (X (rowOf b p) k : EReal)) (A : Apart X t σ) (p : Fin 256)

include h5 in
theorem own_real : k0_pay14 (F := Ideal) v5 (ix2 p 0) = ((900 * len X (rowOf b p) : ℝ) : EReal) := by
  rw [own_at]
  simp only [h5, ← EReal.coe_mul]
  rw [← coe_sum, ← EReal.coe_mul]
  unfold len
  rw [mul_comm]

include h0 h5 in
theorem shifted_real (j : Fin 4096) : k0_pay15 (F := Ideal) v0 v5 (k0_pay6 (F := Ideal) v0) (ix2 p j)
    = ((900 * dist2 X (rowOf b p) j - 900 * len X (rowOf b p) : ℝ) : EReal) := by
  rw [shifted_at, norm_at]
  simp only [h0, h5]
  exact scaled_real X (rowOf b p) j

include h0 h5 in
theorem pull_real (j : Fin 4096) : k0_pay297 (F := Ideal) (k0_pay14 (F := Ideal) v5) (k0_pay15 (F := Ideal) v0 v5 (k0_pay6 (F := Ideal) v0)) (ix2 p j) = (weight (dist2 X (rowOf b p) j) : EReal) := by
  rw [pull_at, own_real b v5 h5, shifted_real b v0 v5 h0 h5]
  exact weight_kernel (dist2_nonneg X _ _)

include hb in
theorem self_iff (j : Fin 4096) : k0_pay16 i (ix2 p j) = 1#1 ↔ j = rowOf b p := by
  rw [self_at, hb, row_word b.val b.isLt, WordCmp.cmpi_eq_eq, WordCmp.ofBool_decide_eq_one_iff, word_inj (by omega) (by omega)]
  exact ⟨fun h => Fin.ext h, fun h => congrArg Fin.val h⟩

include hb h0 h5 A in
theorem bound_real : bound (F := Ideal) (k0_pay15 (F := Ideal) v0 v5 (k0_pay6 (F := Ideal) v0)) (k0_pay16 i) (ix2 p 0)
    = ((900 * reach X σ (rowOf b p) - 900 * len X (rowOf b p) : ℝ) : EReal) := by
  have hs := shifted_real b v0 v5 h0 h5 p
  have hr : Ranked (fun j => k0_pay15 (F := Ideal) v0 v5 (k0_pay6 (F := Ideal) v0) (ix2 p j)) (σ (rowOf b p)) :=
    (A.ranked (rowOf b p)).map fun i j => by
      rw [hs, hs, EReal.coe_le_coe_iff, EReal.coe_le_coe_iff]
      constructor <;> intro h <;> linarith
  refine (bound_at _ p _ (rowOf b p) (self_iff i b hb p) _ hr ?_ fun j => ?_).trans (hs _)
  · have e : dist2 X (rowOf b p) (rowOf b p) = dist2 X (rowOf b p) (σ (rowOf b p) (Fin.ofNat 4096 0)) := by
      exact EReal.coe_injective (A.own (rowOf b p))
    show _ = k0_pay15 (F := Ideal) v0 v5 (k0_pay6 (F := Ideal) v0) (ix2 p (σ (rowOf b p) (Fin.ofNat 4096 0)))
    rw [hs, hs, e]
  · rw [hs]; exact EReal.bot_lt_coe _

include hb h0 h5 A in
open Classical in
theorem taken_real (j : Fin 4096) :
    k0_pay298 (F := Ideal) (k0_pay14 (F := Ideal) v5) (k0_pay15 (F := Ideal) v0 v5 (k0_pay6 (F := Ideal) v0)) (k0_pay16 i) (bound (k0_pay15 (F := Ideal) v0 v5 (k0_pay6 (F := Ideal) v0)) (k0_pay16 i)) (ix2 p j)
      = ((if Neighbour X σ (rowOf b p) j then weight (dist2 X (rowOf b p) j) else 0 : ℝ) : EReal) := by
  rw [taken_at, pull_real b v0 v5 h0 h5, shifted_real b v0 v5 h0 h5, bound_real i b hb v0 v5 h0 h5 A]
  have hlt : ((900 * dist2 X (rowOf b p) j - 900 * len X (rowOf b p) : ℝ) : EReal) < ((900 * reach X σ (rowOf b p) - 900 * len X (rowOf b p) : ℝ) : EReal)
      ↔ dist2 X (rowOf b p) j < reach X σ (rowOf b p) := by
    rw [EReal.coe_lt_coe_iff]
    constructor <;> intro h <;> linarith
  have hs := self_iff i b hb p j
  unfold Neighbour
  by_cases h1 : dist2 X (rowOf b p) j < reach X σ (rowOf b p)
  · rw [decide_eq_true (hlt.2 h1)]
    by_cases h2 : j = rowOf b p
    · rw [hs.2 h2, if_neg fun h => h.1 h2]; rfl
    · rw [(BitVec.eq_zero_or_eq_one _).resolve_right fun e => h2 (hs.1 e), if_pos ⟨h2, h1⟩]; rfl
  · rw [decide_eq_false fun h => h1 (hlt.1 h), if_neg fun h => h1 h.2]
    rcases BitVec.eq_zero_or_eq_one (k0_pay16 i (ix2 p j)) with e | e <;> rw [e] <;> rfl

/-! ### The sums of a row, given its neighbours' weights and its classmates -/

variable (eb : FVec Ideal S256x4096 .f32) (same : IVec S256x4096 1)

open Classical in
/-- The weights a block holds are its rows' neighbours'. -/
def Weighs (X : Fin 4096 → Fin 512 → ℝ) (σ : Fin 4096 → Equiv.Perm (Fin 4096)) (b : Fin 16) (eb : FVec Ideal S256x4096 .f32) : Prop :=
  ∀ p j, eb (ix2 p j) = ((if Neighbour X σ (rowOf b p) j then weight (dist2 X (rowOf b p) j) else 0 : ℝ) : EReal)

variable (heb : Weighs X σ b eb) (hsame : ∀ p j, same (ix2 p j) = BitVec.ofBool (decide (t j = t (rowOf b p))))

include heb hsame in
theorem inside_real : k0_pay300 eb same (ix2 p 0) = (posSum X t σ (rowOf b p) : EReal) := by
  classical
  rw [inside_at]
  unfold posSum
  rw [coe_sum]
  refine Finset.sum_congr rfl fun j _ => ?_
  rw [hsame, heb]
  by_cases h1 : t j = t (rowOf b p)
  · rw [decide_eq_true h1]
    by_cases h2 : Neighbour X σ (rowOf b p) j
    · rw [if_pos h2, if_pos ⟨h1.symm, h2⟩]; rfl
    · rw [if_neg h2, if_neg fun h => h2 h.2]; rfl
  · rw [decide_eq_false h1, if_neg fun h : t (rowOf b p) = t j ∧ Neighbour X σ (rowOf b p) j => h1 h.1.symm]; rfl

include heb hsame in
theorem outside_real : k0_pay301 eb same (ix2 p 0) = (negSum X t σ (rowOf b p) : EReal) := by
  classical
  rw [outside_at, inside_real b p eb same heb hsame]
  have e : ∑ j, eb (ix2 p j) = ((∑ j, if Neighbour X σ (rowOf b p) j then weight (dist2 X (rowOf b p) j) else 0 : ℝ) : EReal) := by
    rw [coe_sum]
    exact Finset.sum_congr rfl fun j _ => by rw [heb]
  rw [e, ← EReal.coe_sub]
  congr 1
  unfold posSum negSum
  rw [← Finset.sum_sub_distrib]
  refine Finset.sum_congr rfl fun j _ => ?_
  by_cases h1 : t (rowOf b p) = t j <;> by_cases h2 : Neighbour X σ (rowOf b p) j <;> simp [h1, h2]

include heb hsame in
theorem some_iff : k0_pay302 eb same (ix2 p 0) = 1#1 ↔ ∃ j, t (rowOf b p) = t j ∧ Neighbour X σ (rowOf b p) j := by
  classical
  rw [some_at, WordCmp.ofBool_decide_eq_one_iff, inside_real b p eb same heb hsame]
  have e : (0 : EReal) < (posSum X t σ (rowOf b p) : EReal) ↔ 0 < posSum X t σ (rowOf b p) := EReal.coe_pos
  rw [e]
  unfold posSum
  constructor
  · intro h
    by_contra hn
    push Not at hn
    refine absurd h (not_lt.2 (le_of_eq (Finset.sum_eq_zero fun j _ => if_neg fun hj => hn j hj.1 hj.2)))
  · rintro ⟨j, hj⟩
    refine Finset.sum_pos' (fun k _ => ?_) ⟨j, Finset.mem_univ j, ?_⟩
    · split_ifs
      exacts [(weight_pos _).le, le_rfl]
    · rw [if_pos hj]; exact weight_pos _
end

end Cert.KernelIdeal.Knn

end
-- ==== Proof.Blocks.lean ====
/- What the blocks of a point hold, element by element, and what the accumulator's array holds after the run. -/
module

public import proofs.«01_k».proof.Proof.Sound
public import proofs.«01_k».proof.Proof.Rows
public import Idealize.ShloMosaic.Lib.Pipeline.Value
public import Idealize.ShloMosaic.Lib.Pointwise

@[expose] public section

set_option maxRecDepth 16384

noncomputable section

namespace Cert.KernelIdeal.Knn

open Cert.KernelIdeal.Gen
open Idealize.ShloMosaic Idealize.ShloMosaic.TcCoe Idealize.ShloMosaic.Tactic Idealize.ShloMosaic.Pointwise

/-! What a point's blocks hold, element by element, read off the two arguments. -/

variable {F : FTy → Type} [FloatOps F]
variable (m : (ℓ : Loc nD τ sig) → Buf (Elt F) ℓ)

/-- The labels as the region finds them: one column, and one row. -/
theorem V_column (c : Dev nD) : (V m c main_v0 : Vec F S4096x1 .i32)
    = shapeCast S4096x1 (m ((c : Thread nD τ).loc main_arg1) : Vec F S4096 .i32) shapeCasts_S4096_S4096x1 := by
  show StableHlo.after hostOps0 _ (Proc.devRef .tc main_v0) = _
  after_results
  rfl

theorem V_row (c : Dev nD) : (V m c main_v1 : Vec F S1x4096 .i32)
    = shapeCast S1x4096 (m ((c : Thread nD τ).loc main_arg1) : Vec F S4096 .i32) shapeCasts_S4096_S1x4096 := by
  show StableHlo.after hostOps0 _ (Proc.devRef .tc main_v1) = _
  after_results
  rfl

/-- The block of point `t`. -/
def blockOf (t : Fin cfg0.N) : Fin 16 := ⟨t.val, lt_of_lt_of_eq t.isLt N_0⟩

theorem point_val (t : Fin cfg0.N) : (grid0.coords t 0).val = (blockOf t).val := by
  have ht : t.val < 16 := lt_of_lt_of_eq t.isLt N_0
  have e0 : (grid0.coords t 0).val = t.val / 1 % 16 := Pipeline.Grid.coords_val t 0 (by decide) rfl
  rw [e0]; show _ = t.val; omega

/-- Only the first window moves, one block a point. -/
theorem places (t : Fin cfg0.N) : win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0) t

/-- The points' own rows. -/
theorem own_block (c : Dev nD) (t : Fin cfg0.N) (p : Fin 256) (k : Fin 512) :
    (iblk m c 0 t : Vec F S256x512 .f32) (ix2 p k) = (m ((c : Thread nD τ).loc main_arg0) : Vec F S4096x512 .f32) (ix2 (rowOf (blockOf t) p) k) := by
  show (V m c main_arg0) (((cfg0.win 0).blk t).view.emb (ix2 p k)) = _
  rw [V_main_arg0]
  congr 1
  obtain ⟨e0, e1, -⟩ := places t
  funext a; apply Fin.ext
  match a with
  | ⟨0, _⟩ => show win0_0.index t (0 : Fin 2) * 256 + 1 * p.val = 256 * t.val + p.val; omega
  | ⟨1, _⟩ => show win0_0.index t (1 : Fin 2) * 512 + 1 * k.val = k.val; omega

/-- All the samples. -/
theorem all_block (c : Dev nD) (t : Fin cfg0.N) : (iblk m c 1 t : Vec F S4096x512 .f32) = m ((c : Thread nD τ).loc main_arg0) := by
  funext y
  show (V m c main_arg0) (((cfg0.win 1).blk t).view.emb y) = _
  rw [V_main_arg0]
  congr 1
  obtain ⟨-, -, e0, e1, -⟩ := places t
  funext a; apply Fin.ext
  match a with
  | ⟨0, _⟩ => show win0_1.index t (0 : Fin 2) * 4096 + 1 * (y 0).val = (y 0).val; omega
  | ⟨1, _⟩ => show win0_1.index t (1 : Fin 2) * 512 + 1 * (y 1).val = (y 1).val; omega

/-- All the labels, in a column. -/
theorem column_block (c : Dev nD) (t : Fin cfg0.N) : (iblk m c 2 t : Vec F S4096x1 .i32) = V m c main_v0 := by
  funext y
  show (V m c main_v0) (((cfg0.win 2).blk t).view.emb y) = _
  congr 1
  obtain ⟨-, -, -, -, e0, e1, -⟩ := places t
  funext a; apply Fin.ext
  match a with
  | ⟨0, _⟩ => show win0_2.index t (0 : Fin 2) * 4096 + 1 * (y 0).val = (y 0).val; omega
  | ⟨1, _⟩ => show win0_2.index t (1 : Fin 2) * 1 + 1 * (y 1).val = (y 1).val; omega

/-- All the labels, in a row. -/
theorem row_block (c : Dev nD) (t : Fin cfg0.N) : (iblk m c 3 t : Vec F S1x4096 .i32) = V m c main_v1 := by
  funext y
  show (V m c main_v1) (((cfg0.win 3).blk t).view.emb y) = _
  congr 1
  obtain ⟨-, -, -, -, -, -, e0, e1, -⟩ := places t
  funext a; apply Fin.ext
  match a with
  | ⟨0, _⟩ => show win0_3.index t (0 : Fin 2) * 1 + 1 * (y 0).val = (y 0).val; omega
  | ⟨1, _⟩ => show win0_3.index t (1 : Fin 2) * 4096 + 1 * (y 1).val = (y 1).val; omega

theorem column_at (c : Dev nD) (k : Fin 4096) :
    (V m c main_v0 : Vec F S4096x1 .i32) (ix2 k 0) = (m ((c : Thread nD τ).loc main_arg1) : Vec F S4096 .i32) (ix1 k) := by
  rw [V_column]; pointwise []

theorem row_at_label (c : Dev nD) (k : Fin 4096) :
    (V m c main_v1 : Vec F S1x4096 .i32) (ix2 0 k) = (m ((c : Thread nD τ).loc main_arg1) : Vec F S4096 .i32) (ix1 k) := by
  rw [V_row]
  refine shapeCast_apply _ _ _ _ ?_
  refine (Shape.rowMajor_val_one (d := ![4096]) (ix1 k)).trans (Eq.trans ?_ (Shape.rowMajor_val_two (d := ![1, 4096]) (ix2 0 k)).symm)
  show k.val = 0 * 4096 + k.val
  omega

/-- The labels a point loads at its own offset are its own rows'. -/
theorem own_labels (t : Fin cfg0.N) (x : Vec F S4096x1 .i32) (p : Fin 256) :
    ownRows (grid0.coords t) x (ix2 p 0) = x (ix2 (rowOf (blockOf t) p) 0) := by
  show x _ = x _
  congr 1
  have hb := point_val t
  have ho : k0_off1 (grid0.coords t) 0 = 256 * (blockOf t).val := by
    show (Scalar.indexCast (Scalar.muli (BitVec.ofNat 32 (grid0.coords t 0).val) 256#32)).toNat = _
    rw [hb]
    have := (blockOf t).isLt
    show (BitVec.ofNat 32 (blockOf t).val * 256#32).toNat = _
    rw [BitVec.toNat_mul, BitVec.toNat_ofNat, BitVec.toNat_ofNat]
    omega
  funext a; apply Fin.ext
  match a with
  | ⟨0, _⟩ => show k0_off1 (grid0.coords t) 0 + 1 * p.val = 256 * (blockOf t).val + p.val; omega
  | ⟨1, _⟩ => show 0 + 1 * 0 = 0; rfl

/-- The accumulator's array after the run is the accumulator at the last point. -/
theorem last_point : 15 < cfg0.N := by rw [show cfg0.N = 16 from N_0]; decide

theorem final_accum (c : Dev nD) : ((dats m 0 c).arrAt 4 cfg0.N : Vec F S1x128 .f32) = accum m c 15 last_point := by
  have hN : cfg0.N = (⟨15, last_point⟩ : Fin cfg0.N).val + 1 := N_0
  have hf : (cfg0.win (4 : Fin 5)).flush ⟨15, last_point⟩ = true := (flush0_4 _).mpr (by first | rfl | exact N_0 | decide)
  have ho : ((cfg0.win (4 : Fin 5)).blk ⟨15, last_point⟩).view.read (Elt F) ((dats m 0 c).arrAt (4 : Fin 5) cfg0.N)
      = (dats m 0 c).flushed (4 : Fin 5) ⟨15, last_point⟩ := by
    rw [congrArg (fun n => (dats m 0 c).arrAt (4 : Fin 5) n) hN, (dats m 0 c).arrAt_succ (4 : Fin 5), if_pos hf]
    exact View.read_write_univ _ _
  obtain ⟨-, -, -, -, -, -, -, -, e0, e1⟩ := places ⟨15, last_point⟩
  funext y
  have h := congrFun ho y
  have hy : ((cfg0.win (4 : Fin 5)).blk ⟨15, last_point⟩).view.emb y = y := by
    funext a; apply Fin.ext
    match a with
    | ⟨0, _⟩ => show win0_4.index ⟨15, last_point⟩ (0 : Fin 2) * 1 + 1 * (y 0).val = (y 0).val; omega
    | ⟨1, _⟩ => show win0_4.index ⟨15, last_point⟩ (1 : Fin 2) * 128 + 1 * (y 1).val = (y 1).val; omega
  have h' : ((dats m 0 c).arrAt (4 : Fin 5) cfg0.N) (((cfg0.win (4 : Fin 5)).blk ⟨15, last_point⟩).view.emb y)
      = (cfg0.win (4 : Fin 5)).cut _ ((dats m 0 c).after 4 ⟨15, last_point⟩) y := h
  rw [hy, after4] at h'
  exact h'

end Cert.KernelIdeal.Knn
-- ==== Proof.Table.lean ====
/- The three tables by class, and what a row reads of them: how many its class has, and its first mate. -/
module

public import proofs.«01_k».proof.Proof.Rows

@[expose] public section

set_option maxRecDepth 16384

noncomputable section

namespace Cert.KernelIdeal.Knn

open Idealize.ShloMosaic
open Cert.KernelIdeal.Gen
open _root_.Knn _root_.Knn.Select _root_.Knn.Points

/-! ## The tables at an index -/

section
variable (x : Vec Ideal S4096x1 .i32) (k : Fin 4096) (c : Fin 64)

theorem one_word : FloatOps.sitofp (F := Ideal) .f32 ((BitVec.ofBool true).setWidth 32) = (1 : EReal) := by
  show ((((BitVec.ofBool true).setWidth 32).toInt : ℝ) : EReal) = 1
  have e : ((BitVec.ofBool true).setWidth 32).toInt = 1 := by decide
  rw [e]; simp
theorem zero_word : FloatOps.sitofp (F := Ideal) .f32 ((BitVec.ofBool false).setWidth 32) = (0 : EReal) := by
  show ((((BitVec.ofBool false).setWidth 32).toInt : ℝ) : EReal) = 0
  have e : ((BitVec.ofBool false).setWidth 32).toInt = 0 := by decide
  rw [e]; simp

theorem indicator_at : k0_pay7 (F := Ideal) x (ix2 k c) = if x (ix2 k 0) = BitVec.ofNat 32 c.val then 1 else 0 := by
  have e : k0_pay7 (F := Ideal) x (ix2 k c)
      = FloatOps.sitofp (F := Ideal) .f32 ((IntOp.cmpi .eq (x (ix2 k 0)) (BitVec.ofNat 32 c.val)).setWidth 32) := by pointwise [k0_pay7]
  rw [e, WordCmp.cmpi_eq_eq]
  by_cases h : x (ix2 k 0) = BitVec.ofNat 32 c.val
  · rw [if_pos h, decide_eq_true h]; exact one_word
  · rw [if_neg h, decide_eq_false h]; exact zero_word

theorem index_at : k0_pay8 (F := Ideal) (ix2 k c) = ((k.val : ℝ) : EReal) := by
  have e : k0_pay8 (F := Ideal) (ix2 k c) = FloatOps.sitofp (F := Ideal) .f32 (BitVec.ofNat 32 k.val) := by pointwise [k0_pay8]
  rw [e]
  show (((BitVec.ofNat 32 k.val).toInt : ℝ) : EReal) = _
  have e : (BitVec.ofNat 32 k.val).toNat = k.val := by rw [BitVec.toNat_ofNat]; exact Nat.mod_eq_of_lt (by omega)
  rw [BitVec.toInt_eq_toNat_cond, e, if_pos (by omega)]
  rfl

theorem member_iff : k0_pay9 (F := Ideal) x (ix2 k c) = 1#1 ↔ x (ix2 k 0) = BitVec.ofNat 32 c.val := by
  have e : k0_pay9 (F := Ideal) x (ix2 k c) = BitVec.ofBool (decide (0 < k0_pay7 (F := Ideal) x (ix2 k c))) := by pointwise [k0_pay9]
  rw [e, indicator_at, WordCmp.ofBool_decide_eq_one_iff]
  by_cases h : x (ix2 k 0) = BitVec.ofNat 32 c.val <;> simp [h]

theorem first_at : k0_pay10 (F := Ideal) x (ix2 0 c)
    = Finset.univ.fold min ⊤ fun k => Scalar.select (k0_pay9 (F := Ideal) x (ix2 k c)) (k0_pay8 (F := Ideal) (ix2 k c)) ⊤ := by
  pointwise [k0_pay10]
  simp only [word_top]

theorem table1_at : k0_pay11 (F := Ideal) x (ix2 0 c) = k0_pay10 (F := Ideal) x (ix2 0 c) := by
  pointwise [k0_pay11]

theorem table2_at : k0_pay12 (F := Ideal) x (ix2 0 c) = Finset.univ.fold min ⊤ fun k => Scalar.select
    (IntOp.andi (k0_pay9 (F := Ideal) x (ix2 k c)) (BitVec.ofBool (decide (k0_pay10 (F := Ideal) x (ix2 0 c) < k0_pay8 (F := Ideal) (ix2 k c)))))
    (k0_pay8 (F := Ideal) (ix2 k c)) ⊤ := by
  pointwise [k0_pay12]
  simp only [word_top]
  rfl

theorem table3_at : k0_pay13 (F := Ideal) x (ix2 0 c) = ∑ k, k0_pay7 (F := Ideal) x (ix2 k c) := by
  pointwise [k0_pay13]
end

/-- The least index of those that qualify. -/
theorem least (q : Fin 4096 → BitVec 1) (f : Fin 4096 → EReal) (hf : ∀ k, f k = ((k.val : ℝ) : EReal)) (m : Fin 4096)
    (hm : q m = 1#1) (hle : ∀ k, q k = 1#1 → m ≤ k) :
    (Finset.univ.fold min ⊤ fun k => Scalar.select (q k) (f k) ⊤) = ((m.val : ℝ) : EReal) := by
  refine le_antisymm ?_ ?_
  · refine not_lt.1 fun h => ?_
    have h' := ((Finset.lt_fold_min _).1 h).2 m (Finset.mem_univ m)
    rw [hm, hf] at h'
    exact lt_irrefl _ h'
  · refine (Finset.le_fold_min _).2 ⟨le_top, fun k _ => ?_⟩
    rcases BitVec.eq_zero_or_eq_one (q k) with e | e
    · rw [e]; exact le_top
    · rw [e]
      show _ ≤ f k
      rw [hf, EReal.coe_le_coe_iff, Nat.cast_le]
      exact hle k e

/-! ## What a row reads of a table -/

section
variable (p : Fin 256)

theorem read_at (v : Vec Ideal S256x1 .i32) (tb : FVec Ideal S1x64 .f32) (c : Fin 64) (hc : v (ix2 p 0) = BitVec.ofNat 32 c.val) :
    k0_pay304 (iota .tc S1x64 32 [1] iota_S1x64_d1_w32) v tb (ix2 p 0) = tb (ix2 0 c) := by
  have e : k0_pay304 (iota .tc S1x64 32 [1] iota_S1x64_d1_w32) v tb (ix2 p 0)
      = ∑ x : Fin 64, FloatOps.sitofp (F := Ideal) .f32 ((IntOp.cmpi .eq (v (ix2 p 0)) (BitVec.ofNat 32 x.val)).setWidth 32) * tb (ix2 0 x) := by
    pointwise [k0_pay304, k0_pay303]
  rw [e, Finset.sum_eq_single c]
  · rw [hc, WordCmp.cmpi_eq_eq, decide_eq_true rfl]
    exact (congrArg (· * tb (ix2 0 c)) one_word).trans (one_mul _)
  · intro x _ hx
    have hne : ¬ v (ix2 p 0) = BitVec.ofNat 32 x.val := fun h =>
      hx (Fin.ext ((word_inj (by omega) (by omega)).1 (h.symm.trans hc)))
    rw [WordCmp.cmpi_eq_eq, decide_eq_false hne]
    exact (congrArg (· * tb (ix2 0 x)) zero_word).trans (zero_mul _)
  · exact fun h => absurd (Finset.mem_univ c) h

/-- The index a row looks its fallback up at: the class's first member, or its second if the first is the row. -/
theorem mate_at (n : BitVec 32) (v : Vec Ideal S256x1 .i32) (a b : FVec Ideal S1x64 .f32) :
    k0_pay305 n (iota .tc S1x64 32 [1] iota_S1x64_d1_w32) v a b (ix2 p 0)
      = Scalar.select (BitVec.ofBool (decide (k0_pay304 (iota .tc S1x64 32 [1] iota_S1x64_d1_w32) v a (ix2 p 0)
            = FloatOps.sitofp (F := Ideal) .f32 (Scalar.muli n 256#32) + FloatOps.sitofp (F := Ideal) .f32 (BitVec.ofNat 32 p.val))))
          (k0_pay304 (iota .tc S1x64 32 [1] iota_S1x64_d1_w32) v b (ix2 p 0)) (k0_pay304 (iota .tc S1x64 32 [1] iota_S1x64_d1_w32) v a (ix2 p 0)) := by
  pointwise [k0_pay305, k0_pay304, k0_pay303]
  rfl

theorem found_at (n : BitVec 32) (v : Vec Ideal S256x1 .i32) (a b : FVec Ideal S1x64 .f32) :
    k0_pay306 n (iota .tc S1x64 32 [1] iota_S1x64_d1_w32) v a b (ix2 p 0)
      = BitVec.ofBool (decide (k0_pay305 n (iota .tc S1x64 32 [1] iota_S1x64_d1_w32) v a b (ix2 p 0) < Ideal.ofBits .f32 0x45800000#32)) := by
  pointwise [k0_pay306]
end

/-! ## Over the classes -/

variable {t : Fin 4096 → BitVec 32} (ht : ∀ i, (t i).toNat < 64) (x : Vec Ideal S4096x1 .i32) (hx : ∀ k, x (ix2 k 0) = t k)

/-- The class of a point. -/
def classOf (i : Fin 4096) : Fin 64 := ⟨(t i).toNat, ht i⟩

theorem classOf_word (i : Fin 4096) : t i = BitVec.ofNat 32 (classOf ht i).val := by
  show t i = BitVec.ofNat 32 (t i).toNat
  simp

include hx in
theorem member_real (k i : Fin 4096) : k0_pay9 (F := Ideal) x (ix2 k (classOf ht i)) = 1#1 ↔ t k = t i := by
  rw [member_iff, hx, ← classOf_word]

include hx in
/-- The first table: the least of a class. -/
theorem first_real (i m : Fin 4096) (hm : t m = t i) (hle : ∀ k, t k = t i → m ≤ k) :
    k0_pay11 (F := Ideal) x (ix2 0 (classOf ht i)) = ((m.val : ℝ) : EReal) := by
  rw [table1_at, first_at]
  exact least _ _ (fun k => index_at k _) m ((member_real ht x hx m i).2 hm) fun k hk => hle k ((member_real ht x hx k i).1 hk)

include hx in
/-- The second table: the least of a class past its first. -/
theorem second_real (i f m : Fin 4096) (hf : t f = t i) (hfle : ∀ k, t k = t i → f ≤ k) (hm : t m = t i) (hfm : f < m)
    (hle : ∀ k, t k = t i → f < k → m ≤ k) : k0_pay12 (F := Ideal) x (ix2 0 (classOf ht i)) = ((m.val : ℝ) : EReal) := by
  have h1 := first_real ht x hx i f hf hfle
  rw [table1_at] at h1
  have lt_iff : ∀ k : Fin 4096, ((f.val : ℝ) : EReal) < ((k.val : ℝ) : EReal) ↔ f < k := fun k => by
    rw [EReal.coe_lt_coe_iff, Nat.cast_lt]; rfl
  rw [table2_at, h1]
  refine least _ _ (fun k => index_at k _) m ?_ fun k hk => ?_
  · rw [IntOp.andi_eq_one, member_real ht x hx, WordCmp.ofBool_decide_eq_one_iff, index_at, lt_iff]
    exact ⟨hm, hfm⟩
  · rw [IntOp.andi_eq_one, member_real ht x hx, WordCmp.ofBool_decide_eq_one_iff, index_at, lt_iff] at hk
    exact hle k hk.1 hk.2

include hx in
/-- The third table: how many a class has. -/
theorem count_real (i : Fin 4096) : k0_pay13 (F := Ideal) x (ix2 0 (classOf ht i)) = (((Finset.univ.filter fun k => t k = t i).card : ℝ) : EReal) := by
  rw [table3_at]
  have e : ∀ k, k0_pay7 (F := Ideal) x (ix2 k (classOf ht i)) = ((if t k = t i then (1 : ℝ) else 0 : ℝ) : EReal) := fun k => by
    rw [indicator_at, hx, ← classOf_word]
    split_ifs <;> rfl
  simp only [e]
  rw [← coe_sum, Finset.sum_boole]

variable (b : Fin 16) (p : Fin 256) (v : Vec Ideal S256x1 .i32) (hv : ∀ p, v (ix2 p 0) = t (rowOf b p))

include ht hx hv in
theorem held_real : k0_pay304 (F := Ideal) (iota .tc S1x64 32 [1] iota_S1x64_d1_w32) v (k0_pay13 (F := Ideal) x) (ix2 p 0)
    = (((Finset.univ.filter fun k => t k = t (rowOf b p)).card : ℝ) : EReal) := by
  rw [read_at p v _ (classOf ht (rowOf b p)) ((hv p).trans (classOf_word ht _)), count_real ht x hx]

theorem place_word : FloatOps.sitofp (F := Ideal) .f32 (Scalar.muli (BitVec.ofNat 32 b.val) 256#32) + FloatOps.sitofp (F := Ideal) .f32 (BitVec.ofNat 32 p.val)
    = (((rowOf b p).val : ℝ) : EReal) := by
  have small : ∀ n : ℕ, n < 4096 → (BitVec.ofNat 32 n).toInt = n := fun n hn => by
    have e : (BitVec.ofNat 32 n).toNat = n := by rw [BitVec.toNat_ofNat]; exact Nat.mod_eq_of_lt (by omega)
    rw [BitVec.toInt_eq_toNat_cond, e, if_pos (by omega)]
  have e : Scalar.muli (BitVec.ofNat 32 b.val) 256#32 = BitVec.ofNat 32 (256 * b.val) := by
    show BitVec.ofNat 32 b.val * 256#32 = _
    rw [BitVec.mul_comm, ← BitVec.ofNat_mul]
  show ((((Scalar.muli (BitVec.ofNat 32 b.val) 256#32).toInt : ℝ)) : EReal) + (((BitVec.ofNat 32 p.val).toInt : ℝ) : EReal) = _
  rw [e, small _ (by omega), small _ (by omega), ← EReal.coe_add]
  congr 1
  unfold rowOf
  push_cast
  rfl

include ht hx hv in
/-- A row with a mate looks up its first. -/
theorem mate_real (n : BitVec 32) (hn : n = BitVec.ofNat 32 b.val) (j : Fin 4096) (hj : Mate t (rowOf b p) j) :
    k0_pay305 (F := Ideal) n (iota .tc S1x64 32 [1] iota_S1x64_d1_w32) v (k0_pay11 (F := Ideal) x) (k0_pay12 (F := Ideal) x) (ix2 p 0)
      = (((firstMate t (rowOf b p)).val : ℝ) : EReal) := by
  classical
  obtain ⟨hm, hmin⟩ := firstMate_spec hj
  have hc : v (ix2 p 0) = BitVec.ofNat 32 (classOf ht (rowOf b p)).val := (hv p).trans (classOf_word ht _)
  have hex : ∃ k, t k = t (rowOf b p) := ⟨_, rfl⟩
  have hf := Fin.find_spec hex
  have hfle : ∀ k, t k = t (rowOf b p) → Fin.find _ hex ≤ k := fun k hk => Fin.find_le_of_pos hex hk
  generalize Fin.find _ hex = f at hf hfle
  have coe_iff : ((f.val : ℝ) : EReal) = (((rowOf b p).val : ℝ) : EReal) ↔ f = rowOf b p := by
    rw [EReal.coe_eq_coe_iff, Nat.cast_inj]; exact ⟨Fin.ext, congrArg _⟩
  rw [mate_at, read_at p v _ _ hc, read_at p v _ _ hc, hn, place_word, first_real ht x hx (rowOf b p) f hf hfle]
  by_cases h : f = rowOf b p
  · rw [decide_eq_true (coe_iff.2 h)]
    show k0_pay12 (F := Ideal) x (ix2 0 (classOf ht (rowOf b p))) = _
    have hlt : ∀ k, t k = t (rowOf b p) → (f < k ↔ k ≠ rowOf b p) := fun k hk =>
      ⟨fun hlt e => absurd hlt (by rw [e, h]; exact lt_irrefl _), fun hne => lt_of_le_of_ne (hfle k hk) fun e => hne (e.symm.trans h)⟩
    exact second_real ht x hx (rowOf b p) f _ hf hfle hm.1.symm ((hlt _ hm.1.symm).2 hm.2) fun k hk hfk => hmin k ⟨hk.symm, (hlt k hk).1 hfk⟩
  · rw [decide_eq_false fun e => h (coe_iff.1 e)]
    have e : firstMate t (rowOf b p) = f := firstMate_eq ⟨hf.symm, h⟩ fun k hk => hfle k hk.1.symm
    rw [e]; rfl

end Cert.KernelIdeal.Knn

end
-- ==== Proof.Losses.lean ====
/- What a block of rows adds to the three totals: its rows' losses, how many of them count, and how many are right. -/
module

public import proofs.«01_k».proof.Proof.Table

@[expose] public section

set_option maxRecDepth 16384

noncomputable section

namespace Cert.KernelIdeal.Knn

open Idealize.ShloMosaic
open Cert.KernelIdeal.Gen
open _root_.Knn _root_.Knn.Select _root_.Knn.Points

/-- The column numbers of a block. -/
abbrev columns : IVec S256x4096 32 := iota .tc S256x4096 32 [1] iota_S256x4096_d1_w32

/-! ## At an index -/

section
variable (p : Fin 256) (ex : FVec Ideal S256x4096 .f32) (a n q w : FVec Ideal S256x1 .f32) (h k : IVec S256x1 1)

/-- The positive weight of a row: of its neighbours if it has any in its class, and else the weight at the index given. -/
def pulled : EReal := Scalar.select (h (ix2 p 0)) (a (ix2 p 0))
  (Finset.univ.fold max ⊥ fun x : Fin 4096 => Scalar.select (IntOp.cmpi .eq (BitVec.ofNat 32 x.val)
    (FloatOps.fptosi (F := Ideal) (φ := .f32) 32 (Scalar.select (k (ix2 p 0)) (w (ix2 p 0)) (Ideal.ofBits .f32 0xBF800000#32)))) (ex (ix2 p x)) ⊥)

theorem loss_at : k0_pay307 columns ex a n h w k (ix2 p 0)
    = -Ideal.log (Ideal.div (pulled p ex a w h k) (pulled p ex a w h k + n (ix2 p 0))) := by
  have e : ∀ v : EReal, 0 - v = -v := fun v => by rw [sub_eq_add_neg, zero_add]
  have z : (0 : EReal) - ⊤ = ⊥ := by rw [e]; rfl
  unfold pulled
  pointwise [k0_pay307]
  simp only [word_top, word_bot, z, e]

theorem counts_at : k0_pay308 q (ix2 p 0) = IntOp.andi (BitVec.ofBool (decide (Ideal.ofBits .f32 0x40000000#32 ≤ q (ix2 p 0))))
    (BitVec.ofBool (decide (q (ix2 p 0) ≤ Ideal.ofBits .f32 0x457FF000#32))) := by
  pointwise [k0_pay308]

theorem losses_at : k0_pay309 columns ex a n h q w k
    = ∑ x : Fin 256, Scalar.select (k0_pay308 q (ix2 x 0)) (k0_pay307 columns ex a n h w k (ix2 x 0)) 0 := by
  generalize columns = cs
  pointwise [k0_pay309]
  simp

theorem tally_at : k0_pay310 q = ∑ x : Fin 256, Scalar.select (k0_pay308 q (ix2 x 0)) (1 : EReal) 0 := by
  pointwise [k0_pay310]
  simp

theorem right_at : k0_pay311 columns ex a n h q w k = ∑ x : Fin 256, Scalar.select (IntOp.andi (k0_pay308 q (ix2 x 0))
    (BitVec.ofBool (decide (k0_pay307 columns ex a n h w k (ix2 x 0) < Ideal.ofBits .f32 0x3F19999A#32)))) (1 : EReal) 0 := by
  generalize columns = cs
  pointwise [k0_pay311]
  simp

theorem lanes_at (u v w : EReal) (acc : FVec Ideal S1x128 .f32) (j : Fin 128) : k0_pay2 (F := Ideal) u v w acc (ix2 0 j) = acc (ix2 0 j)
    + (Scalar.select (IntOp.cmpi .eq (BitVec.ofNat 32 j.val) 0#32) u 0 + Scalar.select (IntOp.cmpi .eq (BitVec.ofNat 32 j.val) 1#32) v 0
      + Scalar.select (IntOp.cmpi .eq (BitVec.ofNat 32 j.val) 2#32) w 0) := by
  pointwise [k0_pay2]
end

/-! ## Over real points -/

variable {X : Fin 4096 → Fin 512 → ℝ} {t : Fin 4096 → BitVec 32} {σ : Fin 4096 → Equiv.Perm (Fin 4096)}

/-- The index found is an index. -/
theorem index_found (m : Fin 4096) : FloatOps.fptosi (F := Ideal) (φ := .f32) 32 (((m.val : ℝ) : EReal)) = BitVec.ofNat 32 m.val := by
  show BitVec.ofInt 32 (Ideal.toIntClamped (-(2 ^ (32 - 1) : ℕ)) ((2 ^ (32 - 1) : ℕ) - 1) (((m.val : ℝ) : EReal))) = _
  have hm := m.isLt
  have e : max (-((2 ^ (32 - 1) : ℕ) : ℤ)) (min (((2 ^ (32 - 1) : ℕ) : ℤ) - 1) (m.val : ℤ)) = m.val := by
    norm_num; omega
  rw [Ideal.toIntClamped_coe, if_pos (Nat.cast_nonneg _), Int.floor_natCast, e, BitVec.ofInt_natCast]

/-- The largest of the entries at one place is the entry. -/
theorem largest (m : Fin 4096) (f : Fin 4096 → EReal) :
    (Finset.univ.fold max ⊥ fun x : Fin 4096 => Scalar.select (IntOp.cmpi .eq (BitVec.ofNat 32 x.val) (BitVec.ofNat 32 m.val)) (f x) ⊥) = f m := by
  have e : ∀ x : Fin 4096, Scalar.select (IntOp.cmpi .eq (BitVec.ofNat 32 x.val) (BitVec.ofNat 32 m.val)) (f x) ⊥ = if x = m then f x else ⊥ := by
    intro x
    rw [WordCmp.cmpi_eq_eq]
    by_cases h : x = m
    · rw [if_pos h, h, decide_eq_true rfl]; rfl
    · rw [if_neg h, decide_eq_false fun c => h (Fin.ext ((word_inj (by omega) (by omega)).1 c))]; rfl
  simp only [e]
  refine le_antisymm ((Finset.fold_max_le _).2 ⟨bot_le, fun x _ => ?_⟩) ((Finset.le_fold_max _).2 (.inr ⟨m, Finset.mem_univ m, by rw [if_pos rfl]⟩))
  by_cases h : x = m
  · rw [if_pos h, h]
  · rw [if_neg h]; exact bot_le

theorem word_two' : Ideal.ofBits .f32 0x40000000#32 = ((2 : ℝ) : EReal) := word_two

/-- A class of two or more and not everything: the row counts. -/
theorem counts_iff (i : Fin 4096) : (2 ≤ (Finset.univ.filter fun k => t k = t i).card ∧ (Finset.univ.filter fun k => t k = t i).card ≤ 4095) ↔ Counts t i := by
  classical
  have hi : i ∈ Finset.univ.filter fun k => t k = t i := by simp
  unfold Counts Mate
  refine and_congr ?_ ?_
  · rw [show (2 ≤ (Finset.univ.filter fun k => t k = t i).card) = (1 < (Finset.univ.filter fun k => t k = t i).card) from rfl, Finset.one_lt_card]
    constructor
    · rintro ⟨a, ha, b, hb, hab⟩
      rw [Finset.mem_filter] at ha hb
      by_cases h : a = i
      · exact ⟨b, hb.2.symm, fun e => hab (h.trans e.symm)⟩
      · exact ⟨a, ha.2.symm, h⟩
    · rintro ⟨j, hj, hne⟩
      exact ⟨j, by simp [hj], i, hi, hne⟩
  · constructor
    · intro h
      by_contra hn
      push Not at hn
      rw [Finset.filter_true_of_mem fun k _ => (hn k).symm] at h
      simp at h
    · rintro ⟨j, hj⟩
      have : (Finset.univ.filter fun k => t k = t i).card < (Finset.univ : Finset (Fin 4096)).card :=
        Finset.card_lt_card (Finset.filter_ssubset.2 ⟨j, Finset.mem_univ j, fun e => hj e.symm⟩)
      simp at this
      omega

section
variable (i : grid0.Coords) (b : Fin 16) (hb : (i 0).val = b.val) (v0 : FVec Ideal S4096x512 .f32) (v5 : FVec Ideal S256x512 .f32)
  (x2 : Vec Ideal S4096x1 .i32) (row : Vec Ideal S1x4096 .i32) (v : Vec Ideal S256x1 .i32)
  (h0 : ∀ j k, v0 (ix2 j k) = (X j k : EReal)) (h5 : ∀ p k, v5 (ix2 p k) = (X (rowOf b p) k : EReal)) (A : Apart X t σ)
  (hx : ∀ k, x2 (ix2 k 0) = t k) (hrow : ∀ k, row (ix2 0 k) = t k) (hv : ∀ p, v (ix2 p 0) = t (rowOf b p)) (p : Fin 256)

/-- The block's weights, its rows' neighbours, its classmates, and what it reads of the tables. -/
abbrev weightsOf : FVec Ideal S256x4096 .f32 := k0_pay297 (F := Ideal) (k0_pay14 (F := Ideal) v5) (k0_pay15 (F := Ideal) v0 v5 (k0_pay6 (F := Ideal) v0))
abbrev takenOf : FVec Ideal S256x4096 .f32 :=
  k0_pay298 (F := Ideal) (k0_pay14 (F := Ideal) v5) (k0_pay15 (F := Ideal) v0 v5 (k0_pay6 (F := Ideal) v0)) (k0_pay16 i) (bound (F := Ideal) (k0_pay15 (F := Ideal) v0 v5 (k0_pay6 (F := Ideal) v0)) (k0_pay16 i))
abbrev heldOf : FVec Ideal S256x1 .f32 := k0_pay304 (F := Ideal) (iota .tc S1x64 32 [1] iota_S1x64_d1_w32) v (k0_pay13 (F := Ideal) x2)
abbrev mateOf : FVec Ideal S256x1 .f32 :=
  k0_pay305 (F := Ideal) (BitVec.ofNat 32 (i 0).val) (iota .tc S1x64 32 [1] iota_S1x64_d1_w32) v (k0_pay11 (F := Ideal) x2) (k0_pay12 (F := Ideal) x2)
abbrev foundOf : IVec S256x1 1 :=
  k0_pay306 (F := Ideal) (BitVec.ofNat 32 (i 0).val) (iota .tc S1x64 32 [1] iota_S1x64_d1_w32) v (k0_pay11 (F := Ideal) x2) (k0_pay12 (F := Ideal) x2)

include A hx hv in
theorem counts_real : k0_pay308 (heldOf x2 v) (ix2 p 0) = 1#1 ↔ Counts t (rowOf b p) := by
  have hh : heldOf x2 v (ix2 p 0) = (((Finset.univ.filter fun k => t k = t (rowOf b p)).card : ℝ) : EReal) :=
    held_real A.classes x2 hx b p v hv
  rw [counts_at, hh, IntOp.andi_eq_one, WordCmp.ofBool_decide_eq_one_iff, WordCmp.ofBool_decide_eq_one_iff,
    word_two, word_4095, EReal.coe_le_coe_iff, EReal.coe_le_coe_iff, ← counts_iff]
  norm_cast

include hb h0 h5 A hx hv in
/-- The loss of a row that counts. -/
theorem loss_real (eb : FVec Ideal S256x4096 .f32) (same : IVec S256x4096 1) (heb : Weighs X σ b eb)
    (hsame : ∀ p j, same (ix2 p j) = BitVec.ofBool (decide (t j = t (rowOf b p)))) (hc : Counts t (rowOf b p)) :
    k0_pay307 columns (weightsOf v0 v5) (k0_pay300 eb same) (k0_pay301 eb same) (k0_pay302 eb same) (mateOf i x2 v) (foundOf i x2 v) (ix2 p 0)
      = lossOf X t σ (rowOf b p) := by
  classical
  obtain ⟨⟨m, hm⟩, _⟩ := hc
  have hmate := mate_real A.classes x2 hx b p v hv (BitVec.ofNat 32 (i 0).val) (by rw [hb]) m hm
  have hfound : foundOf i x2 v (ix2 p 0) = 1#1 := by
    refine (found_at p _ v _ _).trans ?_
    rw [hmate, WordCmp.ofBool_decide_eq_one_iff, word_4096, EReal.coe_lt_coe_iff]
    exact_mod_cast (firstMate t (rowOf b p)).isLt
  have hl : pulled p (weightsOf v0 v5) (k0_pay300 eb same) (mateOf i x2 v) (k0_pay302 eb same) (foundOf i x2 v) = (posWeight X t σ (rowOf b p) : EReal) := by
    unfold pulled
    rw [hfound]
    have e : Scalar.select (1#1) (mateOf i x2 v (ix2 p 0)) (Ideal.ofBits .f32 0xBF800000#32) = (((firstMate t (rowOf b p)).val : ℝ) : EReal) := hmate
    have ew := pull_real b v0 v5 h0 h5 p (firstMate t (rowOf b p))
    rw [e, index_found, largest, show weightsOf v0 v5 (ix2 p (firstMate t (rowOf b p))) = _ from ew, inside_real b p eb same heb hsame]
    have hs := some_iff b p eb same heb hsame
    unfold posWeight
    by_cases h : ∃ j, t (rowOf b p) = t j ∧ Neighbour X σ (rowOf b p) j
    · rw [if_pos h, hs.2 h]; rfl
    · rw [if_neg h, (BitVec.eq_zero_or_eq_one _).resolve_right fun e => h (hs.1 e)]; rfl
  rw [loss_at, hl, outside_real b p eb same heb hsame]
  rfl

open Classical in
include hb h0 h5 A hx hrow hv in
/-- What a block adds to the output's first three lanes. -/
theorem step_real (acc : FVec Ideal S1x128 .f32) (j : Fin 128) :
    blkOut i v0 v5 (k0_pay6 v0) row v v (k0_pay11 x2) (k0_pay12 x2) (k0_pay13 x2) acc (ix2 0 j) = acc (ix2 0 j)
      + (Scalar.select (IntOp.cmpi .eq (BitVec.ofNat 32 j.val) 0#32) (∑ p, if Counts t (rowOf b p) then lossOf X t σ (rowOf b p) else 0) 0
        + Scalar.select (IntOp.cmpi .eq (BitVec.ofNat 32 j.val) 1#32) (∑ p, if Counts t (rowOf b p) then 1 else 0) 0
        + Scalar.select (IntOp.cmpi .eq (BitVec.ofNat 32 j.val) 2#32)
            (∑ p, if Counts t (rowOf b p) ∧ lossOf X t σ (rowOf b p) < Ideal.ofBits .f32 0x3F19999A#32 then 1 else 0) 0) := by
  have heb : Weighs X σ b (takenOf i v0 v5) := fun p j => taken_real i b hb v0 v5 h0 h5 A p j
  have hsame : ∀ p j, k0_pay299 (F := Ideal) row v (ix2 p j) = BitVec.ofBool (decide (t j = t (rowOf b p))) := fun p j => by
    rw [alike_at, hrow, hv]
  have hloss := fun p => loss_real i b hb v0 v5 x2 v h0 h5 A hx hv p _ _ heb hsame
  have hcounts := counts_real b x2 v A hx hv
  have off : ∀ p, ¬ Counts t (rowOf b p) → k0_pay308 (heldOf x2 v) (ix2 p 0) = 0#1 := fun p h =>
    (BitVec.eq_zero_or_eq_one _).resolve_right fun e => h ((hcounts p).1 e)
  have f0 : k0_pay309 columns (weightsOf v0 v5) (k0_pay300 (takenOf i v0 v5) (k0_pay299 (F := Ideal) row v)) (k0_pay301 (takenOf i v0 v5) (k0_pay299 (F := Ideal) row v))
      (k0_pay302 (takenOf i v0 v5) (k0_pay299 (F := Ideal) row v)) (heldOf x2 v) (mateOf i x2 v) (foundOf i x2 v)
      = ∑ p, if Counts t (rowOf b p) then lossOf X t σ (rowOf b p) else 0 := by
    rw [losses_at]
    refine Finset.sum_congr rfl fun p _ => ?_
    by_cases h : Counts t (rowOf b p)
    · rw [if_pos h, (hcounts p).2 h, hloss p h]; rfl
    · rw [if_neg h, off p h]; rfl
  have f1 : k0_pay310 (heldOf x2 v) = ∑ p, if Counts t (rowOf b p) then (1 : EReal) else 0 := by
    rw [tally_at]
    refine Finset.sum_congr rfl fun p _ => ?_
    by_cases h : Counts t (rowOf b p)
    · rw [if_pos h, (hcounts p).2 h]; rfl
    · rw [if_neg h, off p h]; rfl
  have f2 : k0_pay311 columns (weightsOf v0 v5) (k0_pay300 (takenOf i v0 v5) (k0_pay299 (F := Ideal) row v)) (k0_pay301 (takenOf i v0 v5) (k0_pay299 (F := Ideal) row v))
      (k0_pay302 (takenOf i v0 v5) (k0_pay299 (F := Ideal) row v)) (heldOf x2 v) (mateOf i x2 v) (foundOf i x2 v)
      = ∑ p, if Counts t (rowOf b p) ∧ lossOf X t σ (rowOf b p) < Ideal.ofBits .f32 0x3F19999A#32 then (1 : EReal) else 0 := by
    rw [right_at]
    refine Finset.sum_congr rfl fun p _ => ?_
    by_cases h : Counts t (rowOf b p)
    · rw [(hcounts p).2 h, hloss p h]
      by_cases h2 : lossOf X t σ (rowOf b p) < Ideal.ofBits .f32 0x3F19999A#32
      · rw [if_pos ⟨h, h2⟩, decide_eq_true h2]; rfl
      · rw [if_neg fun c => h2 c.2, decide_eq_false h2]; rfl
    · rw [if_neg fun c => h c.1, off p h]
      show Scalar.select (IntOp.andi 0#1 _) (1 : EReal) 0 = 0
      rw [show ∀ z : BitVec 1, IntOp.andi 0#1 z = 0#1 from fun z => by unfold IntOp.andi; simp]; rfl
  rw [← f0, ← f1, ← f2]
  exact lanes_at _ _ _ acc j
end

end Cert.KernelIdeal.Knn

end
-- ==== Proof.Totals.lean ====
/- The accumulator after the last block: the losses summed, how many rows count, and how many of them are good. -/
module

public import proofs.«01_k».proof.Proof.Blocks
public import proofs.«01_k».proof.Proof.Losses

@[expose] public section

set_option maxRecDepth 16384

noncomputable section

namespace Cert.KernelIdeal.Knn

open Cert.KernelIdeal.Gen
open Idealize.ShloMosaic Idealize.ShloMosaic.TcCoe Idealize.ShloMosaic.Tactic Idealize.ShloMosaic.Pointwise
open _root_.Knn _root_.Knn.Select _root_.Knn.Points

variable (X : Fin 4096 → Fin 512 → ℝ) (t : Fin 4096 → BitVec 32) (σ : Fin 4096 → Equiv.Perm (Fin 4096))

open Classical in
/-- What a row adds to each of the three lanes in use. -/
def share0 (i : Fin 4096) : EReal := if Counts t i then lossOf X t σ i else 0
open Classical in
def share1 (i : Fin 4096) : EReal := if Counts t i then 1 else 0
open Classical in
def share2 (i : Fin 4096) : EReal := if Counts t i ∧ lossOf X t σ i < Ideal.ofBits .f32 0x3F19999A#32 then 1 else 0

/-- What a block adds to lane `j`. -/
def addend (j : Fin 128) (b : Fin 16) : EReal :=
  Scalar.select (IntOp.cmpi .eq (BitVec.ofNat 32 j.val) 0#32) (∑ p, share0 X t σ (rowOf b p)) 0
    + Scalar.select (IntOp.cmpi .eq (BitVec.ofNat 32 j.val) 1#32) (∑ p, share1 t (rowOf b p)) 0
    + Scalar.select (IntOp.cmpi .eq (BitVec.ofNat 32 j.val) 2#32) (∑ p, share2 X t σ (rowOf b p)) 0

/-- The sixteen blocks of 256 rows are all the rows. -/
theorem sum_blocks (f : Fin 4096 → EReal) : ∑ b : Fin 16, ∑ p : Fin 256, f (rowOf b p) = ∑ i, f i := by
  rw [← Fintype.sum_prod_type']
  refine Fintype.sum_equiv (finProdFinEquiv.trans (finCongr (by norm_num))) _ _ fun x => congrArg f (Fin.ext ?_)
  show 256 * x.1.val + x.2.val = x.2.val + 256 * x.1.val
  omega

theorem sum_share1 : ∑ i, share1 t i = ((total t : ℝ) : EReal) := by
  classical
  unfold share1 total
  rw [Finset.sum_boole]
  rfl

theorem sum_share2 : ∑ i, share2 X t σ i = ((good X t σ : ℝ) : EReal) := by
  classical
  unfold share2 good
  rw [Finset.sum_boole]
  rfl

theorem addend0 : ∑ b, addend X t σ 0 b = lossSum X t σ := by
  refine Eq.trans (Finset.sum_congr rfl fun b _ => ?_) (sum_blocks (share0 X t σ))
  exact (add_zero _).trans (add_zero _)

theorem addend1 : ∑ b, addend X t σ 1 b = ((total t : ℝ) : EReal) := by
  refine Eq.trans (Finset.sum_congr rfl fun b _ => ?_) ((sum_blocks (share1 t)).trans (sum_share1 t))
  exact (add_zero _).trans (zero_add _)

theorem addend2 : ∑ b, addend X t σ 2 b = ((good X t σ : ℝ) : EReal) := by
  refine Eq.trans (Finset.sum_congr rfl fun b _ => ?_) ((sum_blocks (share2 X t σ)).trans (sum_share2 X t σ))
  show (0 : EReal) + 0 + _ = _
  rw [zero_add, zero_add]; rfl

variable {X t σ}
variable (m : (ℓ : Loc nD τ sig) → Buf (Elt Ideal) ℓ) (c : Dev nD)
  (hx : ∀ i k, (m ((c : Thread nD τ).loc main_arg0) : Vec Ideal S4096x512 .f32) (ix2 i k) = (X i k : EReal))
  (ht : ∀ i, (m ((c : Thread nD τ).loc main_arg1) : Vec Ideal S4096 .i32) (ix1 i) = t i) (A : Apart X t σ)
include hx ht A

/-- What one point adds. -/
theorem step_at (n : Fin cfg0.N) (acc : Vec Ideal S1x128 .f32) (j : Fin 128) :
    step (grid0.coords n) (iblk m c 0 n) (iblk m c 1 n) (iblk m c 2 n) (iblk m c 3 n)
      (k0_pay6 (arr1 m c)) (k0_pay11 (arr2 m c)) (k0_pay12 (arr2 m c)) (k0_pay13 (arr2 m c)) acc (ix2 0 j)
      = acc (ix2 0 j) + addend X t σ j (blockOf n) := by
  have e1 : arr1 m c = iblk m c 1 n := (all_block m c _).trans (all_block m c n).symm
  have e2 : arr2 m c = iblk m c 2 n := (column_block m c _).trans (column_block m c n).symm
  rw [e1, e2]
  unfold step
  refine (step_real (X := X) (t := t) (σ := σ) (grid0.coords n) (blockOf n) (point_val n) (iblk m c 1 n) (iblk m c 0 n) (iblk m c 2 n) (iblk m c 3 n)
    (ownRows (grid0.coords n) (iblk m c 2 n)) ?_ ?_ A ?_ ?_ ?_ acc j).trans rfl
  · intro i k; rw [all_block]; exact hx i k
  · intro p k; rw [own_block]; exact hx _ k
  · intro k; rw [column_block, column_at]; exact ht k
  · intro k; rw [row_block, row_at_label]; exact ht k
  · intro p; rw [own_labels, column_block, column_at]; exact ht _

/-- What has been added after point `n`. -/
theorem accum_at (j : Fin 128) : ∀ (n : ℕ) (hn : n < cfg0.N), accum m c n hn (ix2 0 j)
    = ∑ k ∈ Finset.range (n + 1), if h : k < 16 then addend X t σ j ⟨k, h⟩ else 0
  | 0, hn => by
    refine (step_at m c hx ht A ⟨0, hn⟩ _ j).trans ?_
    rw [show (k0_pay1 (F := Ideal)) (ix2 0 j) = 0 from Ideal.ofBits_zero .f32, zero_add, Finset.sum_range_one, dif_pos (by decide)]
    rfl
  | n + 1, hn => by
    have h16 : n + 1 < 16 := lt_of_lt_of_eq hn N_0
    refine (step_at m c hx ht A ⟨n + 1, hn⟩ _ j).trans ?_
    rw [accum_at j n (Nat.lt_of_succ_lt hn), Finset.sum_range_succ _ (n + 1), dif_pos h16]
    rfl

/-- After the last. -/
theorem final_at (j : Fin 128) : accum m c 15 last_point (ix2 0 j) = ∑ b, addend X t σ j b := by
  rw [accum_at m c hx ht A j, Finset.sum_range]
  exact Finset.sum_congr rfl fun b _ => dif_pos b.isLt

end Cert.KernelIdeal.Knn
-- ==== Proof.Tail.lean ====
/- What the lines after the region leave in the results. -/
module

public import proofs.«01_k».proof.Proof.Totals

@[expose] public section

set_option maxRecDepth 16384

noncomputable section

namespace Cert.KernelIdeal.Knn

open Cert.KernelIdeal.Gen
open Idealize.ShloMosaic Idealize.ShloMosaic.TcCoe Idealize.ShloMosaic.Tactic Idealize.ShloMosaic.Pointwise
open Idealize.SL.Sem
open _root_.Knn _root_.Knn.Select _root_.Knn.Points

section
variable {F : FTy → Type} [FloatOps F]
variable (m : (ℓ : Loc nD τ sig) → Buf (Elt F) ℓ) (ρ : Dev nD → PrngReg)

/-- One lane of the accumulator, as a scalar. -/
def laneOf (acc : Vec F S1x128 .f32) (off : Fin 2 → Nat) (h : S1x128.Slices off S1x1) : FVec F S_ .f32 :=
  shapeCast S_ (extractStridedSlice S1x1 off acc h) shapeCasts_S1x1_S_

/-- The mean from the accumulator, and the accuracy. -/
def meanFrom (acc : Vec F S1x128 .f32) : FVec F S_ .f32 :=
  Host.divf (laneOf acc ![0, 0] slices_S1x128_S1x1_0_0) (maximumf (laneOf acc ![0, 1] slices_S1x128_S1x1_0_1) (constant S_ .f32 0x3F800000#32))
def accuracyFrom (acc : Vec F S1x128 .f32) : FVec F S_ .f32 :=
  Host.divf (laneOf acc ![0, 2] slices_S1x128_S1x1_0_2) (constant S_ .f32 0x45800000#32)

/-- The arrays as the region leaves them. -/
abbrev left (c : Dev nD) : Valuation τ sig (Elt F) :=
  Pipeline.withArrays spec0 c (V0 m c) fun w => (dats m 0 c).arrAt w cfg0.N

theorem left_accum (c : Dev nD) : left m c (Proc.devRef .tc main_v2) = accum m c 15 last_point :=
  ((dats m 0 c).withArrays_arrAt sharedIn0 (V0 m c) (A_eq m c) 4).trans (final_accum m c)

theorem after_mean (c : Dev nD) : Pipeline.afterTail₀ cfgs (dats m) 0 (V0 m) [hostOps1] c main_v8 = meanFrom (accum m c 15 last_point) := by
  rw [← left_accum]
  show StableHlo.after hostOps1 (left m c) (Proc.devRef .tc main_v8) = _
  after_results
  rfl

theorem after_accuracy (c : Dev nD) :
    Pipeline.afterTail₀ cfgs (dats m) 0 (V0 m) [hostOps1] c main_v11 = accuracyFrom (accum m c 15 last_point) := by
  rw [← left_accum]
  show StableHlo.after hostOps1 (left m c) (Proc.devRef .tc main_v11) = _
  after_results
  rfl

theorem after_zero (c : Dev nD) :
    Pipeline.afterTail₀ cfgs (dats m) 0 (V0 m) [hostOps1] c main_cst_1 = (constant S_ .f32 0x00000000#32 : Vec F S_ .f32) := by
  show StableHlo.after hostOps1 (left m c) (Proc.devRef .tc main_cst_1) = _
  after_results

theorem after_zero' (c : Dev nD) :
    Pipeline.afterTail₀ cfgs (dats m) 0 (V0 m) [hostOps1] c main_cst_2 = (constant S_ .f32 0x00000000#32 : Vec F S_ .f32) := by
  show StableHlo.after hostOps1 (left m c) (Proc.devRef .tc main_cst_2) = _
  after_results

/-- The kernel's run: every result, and the arguments as they were. -/
theorem run_values : θ_run defs (onTc (τ := τ) (main (F := F))) ⟨m, fun _ => 0, ρ⟩ fun r => ∀ c : Dev nD,
    r.2.mem ((c.tc : Thread nD τ).loc main_v8) = meanFrom (accum m c 15 last_point)
    ∧ r.2.mem ((c.tc : Thread nD τ).loc main_v11) = accuracyFrom (accum m c 15 last_point)
    ∧ r.2.mem ((c.tc : Thread nD τ).loc main_cst_1) = (constant S_ .f32 0x00000000#32 : Vec F S_ .f32)
    ∧ r.2.mem ((c.tc : Thread nD τ).loc main_cst_2) = (constant S_ .f32 0x00000000#32 : Vec F S_ .f32)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨
    ((h.1 c).2 main_v8 (Pipeline.mem_restRefs_of main_v8 (by decide) (by decide))).trans (after_mean m c),
    ((h.1 c).2 main_v11 (Pipeline.mem_restRefs_of main_v11 (by decide) (by decide))).trans (after_accuracy m c),
    ((h.1 c).2 main_cst_1 (Pipeline.mem_restRefs_of main_cst_1 (by decide) (by decide))).trans (after_zero m c),
    ((h.1 c).2 main_cst_2 (Pipeline.mem_restRefs_of main_cst_2 (by decide) (by decide))).trans (after_zero' m c),
    ((h.1 c).1 1).trans (((dats m 0 c).arrAt_in 1 rfl _).trans ((A_eq m c 1).trans (V_main_arg0 m c))),
    ((h.1 c).2 main_arg1 (Pipeline.mem_restRefs_of main_arg1 (by decide) (by decide))).trans (W_main_arg1 m (dats m) c)⟩) (run_quiet m ρ)
end

variable {X : Fin 4096 → Fin 512 → ℝ} {t : Fin 4096 → BitVec 32} {σ : Fin 4096 → Equiv.Perm (Fin 4096)}

/-- A lane read. -/
theorem lane_at (acc : Vec Ideal S1x128 .f32) (k : Fin 128) (h : S1x128.Slices ![0, k.val] S1x1) :
    laneOf acc ![0, k.val] h ix0 = acc (ix2 0 k) := by
  unfold laneOf
  refine (shapeCast_apply _ _ ix0 (ix2 (n0 := 1) (n1 := 1) 0 0) (by decide)).trans ?_
  show acc _ = acc _
  congr 1
  funext a; apply Fin.ext
  match a with
  | ⟨0, _⟩ => rfl
  | ⟨1, _⟩ => rfl

/-- The results from any accumulator. -/
theorem meanFrom_at (acc : FVec Ideal S1x128 .f32) : meanFrom (F := Ideal) acc ix0 = Ideal.div (acc (ix2 0 0)) (max (acc (ix2 0 1)) ((1 : ℝ) : EReal)) := by
  have e0 : laneOf (F := Ideal) acc ![0, 0] slices_S1x128_S1x1_0_0 ix0 = acc (ix2 0 0) := lane_at acc 0 _
  have e1 : laneOf (F := Ideal) acc ![0, 1] slices_S1x128_S1x1_0_1 ix0 = acc (ix2 0 1) := lane_at acc 1 _
  have e : meanFrom (F := Ideal) acc ix0 = Ideal.div (laneOf (F := Ideal) acc ![0, 0] slices_S1x128_S1x1_0_0 ix0)
      (max (laneOf (F := Ideal) acc ![0, 1] slices_S1x128_S1x1_0_1 ix0) (Ideal.ofBits .f32 0x3F800000#32)) := rfl
  rw [e, e0, e1, show Ideal.ofBits .f32 0x3F800000#32 = ((1 : ℝ) : EReal) from Ideal.ofBits_one_f32]

theorem accuracyFrom_at (acc : FVec Ideal S1x128 .f32) :
    accuracyFrom (F := Ideal) acc ix0 = Ideal.div (acc (ix2 0 2)) (Ideal.ofBits .f32 0x45800000#32) := by
  have e2 : laneOf (F := Ideal) acc ![0, 2] slices_S1x128_S1x1_0_2 ix0 = acc (ix2 0 2) := lane_at acc 2 _
  have e : accuracyFrom (F := Ideal) acc ix0 = Ideal.div (laneOf (F := Ideal) acc ![0, 2] slices_S1x128_S1x1_0_2 ix0) (Ideal.ofBits .f32 0x45800000#32) := rfl
  rw [e, e2]

/-- A count's maximum with one, over the reals. -/
theorem max_one (n : ℕ) : max ((n : ℝ) : EReal) ((1 : ℝ) : EReal) = (((max n 1 : ℕ) : ℝ) : EReal) := by
  rcases le_total n 1 with h | h
  · rw [max_eq_right (EReal.coe_le_coe_iff.2 (by exact_mod_cast h)), max_eq_right h, Nat.cast_one]
  · rw [max_eq_left (EReal.coe_le_coe_iff.2 (by exact_mod_cast h)), max_eq_left h]

variable (m : (ℓ : Loc nD τ sig) → Buf (Elt Ideal) ℓ) (c : Dev nD)
  (hx : ∀ i k, (m ((c : Thread nD τ).loc main_arg0) : Vec Ideal S4096x512 .f32) (ix2 i k) = (X i k : EReal))
  (ht : ∀ i, (m ((c : Thread nD τ).loc main_arg1) : Vec Ideal S4096 .i32) (ix1 i) = t i) (A : Apart X t σ)
include hx ht A

/-- The first result is the mean of the losses. -/
theorem mean_real : meanFrom (accum m c 15 last_point) ix0 = meanOf X t σ := by
  rw [meanFrom_at, final_at m c hx ht A 0, final_at m c hx ht A 1, addend0, addend1, max_one]
  unfold meanOf
  rfl

/-- The second is the accuracy. -/
theorem accuracy_at : accuracyFrom (accum m c 15 last_point) ix0 = accuracyOf X t σ := by
  rw [accuracyFrom_at, final_at m c hx ht A 2, addend2]
  unfold accuracyOf
  rfl

end Cert.KernelIdeal.Knn
-- ==== Proof.Domain.lean ====
/- What the precondition says, row by row: the squared distances have a ranking strict through rank seventeen, the nearest
   other point is no nearer than the clip, and every class is one of the 64. -/
module

public import proofs.«01_k».proof.Proof.Near
public import proofs.«01_k».proof.Proof.RefStages
public import proofs.«01_k».proof.Proof.Ranks
public import proofs.«01_k».proof.Proof.Points
public import Idealize.ShloMosaic.Lib.Pointwise
public import Idealize.ShloMosaic.Lib.ReduceAll
public import Idealize.ShloMosaic.Lib.WordCmp

@[expose] public section

set_option maxRecDepth 16384

noncomputable section

namespace Cert.ReferenceIdeal.Knn

open Idealize.ShloMosaic
open Cert.ReferenceIdeal.Gen
open _root_.Knn.Select _root_.Knn.Points

variable (x : FVec Ideal S4096x512 .f32) (t : IVec S4096 32)

theorem gaps_at (i j : Fin 4096) : gaps x (ix2 i j) = gap (fun i k => x (ix2 i k)) i j := by
  pointwise [gaps, squares]
  rw [word_two]
  rfl

/-- The precondition's parts, over the squared distances in sorted order. -/
def ascending (g : FVec Ideal S4096x4096 .f32) : IVec S_ 1 :=
  Host.reduce IntOp.andi (cmpf .ogt (extractStridedSlice Cert.Pre_near_apart.S4096x17 ![0, 1] g Cert.Pre_near_apart.Facts.slices_S4096x4096_S4096x17_0_1)
    (extractStridedSlice Cert.Pre_near_apart.S4096x17 ![0, 0] g Cert.Pre_near_apart.Facts.slices_S4096x4096_S4096x17_0_0)) (constantI S_ 1 1#1)
    Cert.Pre_near_apart.Facts.reducesTo_S4096x17_S_d0_1 h_S_
def clear (g : FVec Ideal S4096x4096 .f32) : IVec S_ 1 :=
  Host.reduce IntOp.andi (cmpf .oge (shapeCast S4096 (extractStridedSlice S4096x1 ![0, 1] g Cert.Pre_near_apart.Facts.slices_S4096x4096_S4096x1_0_1)
    shapeCasts_S4096x1_S4096) (tall 0x2B8CBCCC#32)) (constantI S_ 1 1#1) reducesTo_S4096_S_d0 h_S_
def inRange : IVec S_ 1 :=
  Host.reduce IntOp.andi (andi (cmpi .sge t (broadcastInDim S4096 ![] bcast_S_S4096 (constantI S_ 32 0#32)))
    (cmpi .slt t (broadcastInDim S4096 ![] bcast_S_S4096 (constantI S_ 32 64#32)))) (constantI S_ 1 1#1) reducesTo_S4096_S_d0 h_S_

theorem pre_eq : Cert.Pre_near_apart.fn (F := Ideal) x t
    = andi (andi (ascending (Host.sort S4096x4096 1 Cert.Pre_near_apart.comparator_f32_d1 (gaps x)))
        (clear (Host.sort S4096x4096 1 Cert.Pre_near_apart.comparator_f32_d1 (gaps x)))) (inRange t) := rfl

instance : Subsingleton S_.Idx := ⟨fun _ _ => funext fun a => a.elim0⟩

theorem ascending_at (g : FVec Ideal S4096x4096 .f32) (h : ascending g ix0 = 1#1) (i : Fin 4096) (r : Fin 17) :
    g (ix2 i ⟨r.val, by omega⟩) < g (ix2 i ⟨1 + r.val, by omega⟩) := by
  have h1 := Host.reduce_andi_all _ _ _ _ ix0 h (ix2 i r)
  have h2 : cmpf .ogt (extractStridedSlice Cert.Pre_near_apart.S4096x17 ![0, 1] g Cert.Pre_near_apart.Facts.slices_S4096x4096_S4096x17_0_1)
      (extractStridedSlice Cert.Pre_near_apart.S4096x17 ![0, 0] g Cert.Pre_near_apart.Facts.slices_S4096x4096_S4096x17_0_0) (ix2 i r)
      = BitVec.ofBool (decide (g (ix2 i ⟨r.val, by omega⟩) < g (ix2 i ⟨1 + r.val, by omega⟩))) := by
    pointwise []
  exact (WordCmp.ofBool_decide_eq_one_iff _).1 (h2 ▸ h1)

theorem clear_at (g : FVec Ideal S4096x4096 .f32) (h : clear g ix0 = 1#1) (i : Fin 4096) :
    Ideal.ofBits .f32 0x2B8CBCCC#32 ≤ g (ix2 i 1) := by
  have h1 := Host.reduce_andi_all _ _ _ _ ix0 h (ix1 i)
  have h2 : cmpf .oge (shapeCast S4096 (extractStridedSlice S4096x1 ![0, 1] g Cert.Pre_near_apart.Facts.slices_S4096x4096_S4096x1_0_1)
      shapeCasts_S4096x1_S4096) (tall 0x2B8CBCCC#32) (ix1 i) = BitVec.ofBool (decide (Ideal.ofBits .f32 0x2B8CBCCC#32 ≤ g (ix2 i 1))) := by
    pointwise [tall]
  exact (WordCmp.ofBool_decide_eq_one_iff _).1 (h2 ▸ h1)

theorem inRange_at (h : inRange t ix0 = 1#1) (i : Fin 4096) : (t (ix1 i)).toNat < 64 := by
  have h1 := Host.reduce_andi_all _ _ _ _ ix0 h (ix1 i)
  have h2 : IntOp.andi (IntOp.cmpi .sge (t (ix1 i)) 0#32) (IntOp.cmpi .slt (t (ix1 i)) 64#32) = 1#1 := h1
  obtain ⟨h3, h4⟩ := IntOp.andi_eq_one.1 h2
  rw [WordCmp.cmpi_sge_eq, WordCmp.ofBool_decide_eq_one_iff] at h3
  rw [WordCmp.cmpi_slt_eq, WordCmp.ofBool_decide_eq_one_iff] at h4
  generalize t (ix1 i) = w at h3 h4 ⊢
  have e0 : (0#32).toInt = 0 := rfl
  have e1 : (64#32).toInt = 64 := rfl
  rw [e0] at h3
  rw [e1] at h4
  rw [BitVec.toInt_eq_toNat_cond] at h3 h4
  split at h3 <;> omega

/-- What a row's squared distances satisfy. -/
structure RowOk (i : Fin 4096) (σ : Equiv.Perm (Fin 4096)) : Prop where
  ranked : Ranked (gap (fun i k => x (ix2 i k)) i) σ
  clear : Ideal.ofBits .f32 0x2B8CBCCC#32 ≤ rung (gap (fun i k => x (ix2 i k)) i) σ 1

theorem rows_ok (h : Cert.Pre_near_apart.fn (F := Ideal) x t = fun _ => 1#1) :
    (∀ i, ∃ σ, RowOk x i σ) ∧ ∀ i, (t (ix1 i)).toNat < 64 := by
  have h0 := congrFun h ix0
  rw [pre_eq] at h0
  obtain ⟨h1, hr⟩ := IntOp.andi_eq_one.1 h0
  obtain ⟨ha, hc⟩ := IntOp.andi_eq_one.1 h1
  refine ⟨fun i => ?_, inRange_at t hr⟩
  obtain ⟨σ, hσ, hm⟩ := sort_row (n := 4096) (Cert.Pre_near_apart.comparator_f32_d1 (F := Ideal)) (fun a b => pre_cmp a b) (gaps x) i
  simp only [gaps_at] at hσ hm
  refine ⟨σ, ⟨hm, fun r hr => ?_⟩, ?_⟩
  · have := ascending_at _ ha i ⟨r, hr⟩
    rw [hσ, hσ] at this
    have e1 : Fin.ofNat 4096 r = ⟨r, by omega⟩ := Fin.ext (Nat.mod_eq_of_lt (by omega))
    have e2 : Fin.ofNat 4096 (r + 1) = ⟨1 + r, by omega⟩ := Fin.ext ((Nat.mod_eq_of_lt (by omega)).trans (Nat.add_comm _ _))
    rw [e1, e2]; exact this
  · have := clear_at _ hc i
    rw [hσ] at this
    exact this

end Cert.ReferenceIdeal.Knn

end
-- ==== Proof.First.lean ====
/- The reference's first row of the same class: what an `argmax` of bits along the rows of a square leaves, and the entry a
   gather takes from a square at a row and a column. -/
module

public import proofs.«01_k».proof.ReferenceIdeal
public import Idealize.ShloMosaic.Lib.Pointwise
public import Idealize.ShloMosaic.Lib.WordCmp

@[expose] public section

set_option maxRecDepth 16384

noncomputable section

namespace Knn.First

open Idealize.ShloMosaic

variable {n : ℕ}

/-! ## The fold of an `argmax` -/

/-- One step keeps the pair with the set bit, and of two alike the smaller index. -/
theorem step_eq (a b : BitVec 1 × BitVec 32) : Cert.ReferenceIdeal.reducer_argmax_i1_i32 a b
    = if a.1 = 1#1 ∧ b.1 = 0#1 then a else if a.1 = b.1 then (b.1, if a.2.toInt < b.2.toInt then a.2 else b.2) else b := by
  obtain ⟨p, v⟩ := a
  obtain ⟨q, w⟩ := b
  unfold Cert.ReferenceIdeal.reducer_argmax_i1_i32
  simp only [WordCmp.cmpi_slt_eq]
  by_cases h : v.toInt < w.toInt
  · simp only [decide_eq_true h, if_pos h]
    rcases BitVec.eq_zero_or_eq_one p with rfl | rfl <;> rcases BitVec.eq_zero_or_eq_one q with rfl | rfl <;> rfl
  · simp only [decide_eq_false h, if_neg h]
    rcases BitVec.eq_zero_or_eq_one p with rfl | rfl <;> rcases BitVec.eq_zero_or_eq_one q with rfl | rfl <;> rfl

/-- The fold over a list of pairs: if a bit is set, there or at the start, the index left is the least of those set. -/
theorem fold_first (l : List (BitVec 1 × BitVec 32)) (a : BitVec 1 × BitVec 32)
    (h : ∃ p ∈ a :: l, p.1 = 1#1) :
    (∃ p ∈ a :: l, p.1 = 1#1 ∧ (l.foldl Cert.ReferenceIdeal.reducer_argmax_i1_i32 a) = p) ∧
    ∀ p ∈ a :: l, p.1 = 1#1 → (l.foldl Cert.ReferenceIdeal.reducer_argmax_i1_i32 a).2.toInt ≤ p.2.toInt := by
  induction l generalizing a with
  | nil =>
    obtain ⟨p, hp, hb⟩ := h
    rw [List.mem_singleton] at hp
    subst hp
    exact ⟨⟨p, by simp, hb, rfl⟩, fun q hq _ => by rw [List.mem_singleton] at hq; subst hq; exact le_rfl⟩
  | cons b l ih =>
    rw [List.foldl_cons]
    set c := Cert.ReferenceIdeal.reducer_argmax_i1_i32 a b with hc
    have hstep := step_eq a b
    rw [← hc] at hstep
    -- the step's pair is one of the two, and stands for those of them that are set
    have h1 : a.1 = 1#1 ∨ b.1 = 1#1 → (c = a ∨ c = b) ∧ c.1 = 1#1 := by
      intro hab
      rcases BitVec.eq_zero_or_eq_one a.1 with ha | ha <;> rcases BitVec.eq_zero_or_eq_one b.1 with hb | hb <;> simp [ha, hb] at hstep hab
      · exact ⟨.inr hstep, by rw [hstep, hb]⟩
      · exact ⟨.inl hstep, by rw [hstep, ha]⟩
      · split at hstep
        · exact ⟨.inl (hstep.trans (Prod.ext ha.symm rfl)), by rw [hstep]⟩
        · exact ⟨.inr (hstep.trans (Prod.ext hb.symm rfl)), by rw [hstep]⟩
    have h2 : (a.1 = 1#1 → c.2.toInt ≤ a.2.toInt) ∧ (b.1 = 1#1 → c.2.toInt ≤ b.2.toInt) := by
      rcases BitVec.eq_zero_or_eq_one a.1 with ha | ha <;> rcases BitVec.eq_zero_or_eq_one b.1 with hb | hb <;> simp [ha, hb] at hstep ⊢
      · rw [hstep]
      · rw [hstep]
      · split at hstep <;> rw [hstep] <;> constructor <;> dsimp only <;> omega
    have hh : ∃ p ∈ c :: l, p.1 = 1#1 := by
      obtain ⟨p, hp, hb⟩ := h
      rcases List.mem_cons.1 hp with rfl | hp
      · exact ⟨c, by simp, (h1 (.inl hb)).2⟩
      · rcases List.mem_cons.1 hp with rfl | hp
        · exact ⟨c, by simp, (h1 (.inr hb)).2⟩
        · exact ⟨p, List.mem_cons_of_mem _ hp, hb⟩
    obtain ⟨⟨p, hp, hb, hr⟩, hmin⟩ := ih c hh
    refine ⟨⟨p, ?_, hb, hr⟩, fun q hq hqb => ?_⟩
    · rcases List.mem_cons.1 hp with rfl | hp
      · have hab : a.1 = 1#1 ∨ b.1 = 1#1 := by
          by_contra hn
          push Not at hn
          have ha := (BitVec.eq_zero_or_eq_one a.1).resolve_right hn.1
          have hb' := (BitVec.eq_zero_or_eq_one b.1).resolve_right hn.2
          simp [ha, hb'] at hstep
          rw [hstep] at hb
          simp at hb
        rcases (h1 hab).1 with e | e <;> rw [e] <;> simp
      · exact List.mem_cons_of_mem _ (List.mem_cons_of_mem _ hp)
    · rcases List.mem_cons.1 hq with rfl | hq
      · exact (hmin c (by simp) (h1 (.inl hqb)).2).trans (h2.1 hqb)
      · rcases List.mem_cons.1 hq with rfl | hq
        · exact (hmin c (by simp) (h1 (.inr hqb)).2).trans (h2.2 hqb)
        · exact hmin q (List.mem_cons_of_mem _ hq) hqb

/-- The `argmax` of a row of bits that holds a set one is the least index of those set. -/
theorem argmax_row (mask : (⟨2, ![n, n]⟩ : Shape).Idx → BitVec 1) (hn : n < 2 ^ 31) (idx : (⟨2, ![n, n]⟩ : Shape).Idx → BitVec 32)
    (hidx : ∀ i j : Fin n, idx (ix2 i j) = BitVec.ofNat 32 j.val) {u : Shape} (ix : u.Idx → BitVec 1) (iy : u.Idx → BitVec 32)
    (hix : ∀ k, ix k = 0#1) (h : (⟨2, ![n, n]⟩ : Shape).ReducesTo [1] ⟨1, ![n]⟩) (hu : 0 < u.numel) (i j : Fin n)
    (hj : mask (ix2 i j) = 1#1) :
    ∃ m : Fin n, mask (ix2 i m) = 1#1 ∧ (∀ k, mask (ix2 i k) = 1#1 → m ≤ k) ∧
      (Host.reduce2 Cert.ReferenceIdeal.reducer_argmax_i1_i32 mask idx ix iy h hu (ix1 i)).2 = BitVec.ofNat 32 m.val := by
  rw [Host.reduce2_eq_foldl_fiber]
  have hdrop : ∀ k : (⟨2, ![n, n]⟩ : Shape).Idx, h.drop k = ix1 i ↔ k 0 = i := by
    intro k
    have hv : (h.drop k 0 : ℕ) = k 0 := Shape.ReducesTo.drop_apply_val h k 0
    constructor
    · intro e; rw [e] at hv; exact Fin.ext hv.symm
    · intro e; funext b; obtain rfl : b = 0 := Subsingleton.elim _ _; exact Fin.ext (hv.trans (congrArg Fin.val e))
  have hmem : ∀ p : BitVec 1 × BitVec 32, p ∈ Host.argReduceFiber mask idx h (ix1 i) ↔ ∃ k : Fin n, p = (mask (ix2 i k), BitVec.ofNat 32 k.val) := by
    intro p
    unfold Host.argReduceFiber
    rw [List.mem_map]
    constructor
    · rintro ⟨q, hq, rfl⟩
      have hq' := (hdrop _).1 (of_decide_eq_true (List.mem_filter.1 hq).2)
      generalize (⟨2, ![n, n]⟩ : Shape).rowMajor.symm q = k at hq' ⊢
      have ek : k = ix2 i (k 1) := by
        funext b
        match b with
        | ⟨0, _⟩ => exact hq'
        | ⟨1, _⟩ => rfl
      exact ⟨k 1, Prod.ext (congrArg mask ek) ((congrArg idx ek).trans (hidx i (k 1)))⟩
    · rintro ⟨k, rfl⟩
      refine ⟨(⟨2, ![n, n]⟩ : Shape).rowMajor (ix2 i k), List.mem_filter.2 ⟨List.mem_finRange _, decide_eq_true ?_⟩, ?_⟩
      · rw [Equiv.symm_apply_apply]; exact (hdrop _).2 rfl
      · rw [Equiv.symm_apply_apply, hidx]
  obtain ⟨⟨p, hp, hb, hr⟩, hmin⟩ := fold_first (Host.argReduceFiber mask idx h (ix1 i)) (ix (Shape.Idx.first hu), iy (Shape.Idx.first hu))
    ⟨_, List.mem_cons_of_mem _ ((hmem _).2 ⟨j, rfl⟩), hj⟩
  rcases List.mem_cons.1 hp with rfl | hp
  · exact absurd ((hix _).symm.trans hb) (by decide)
  · obtain ⟨m, rfl⟩ := (hmem p).1 hp
    refine ⟨m, hb, fun k hk => ?_, by rw [hr]⟩
    have := hmin _ (List.mem_cons_of_mem _ ((hmem _).2 ⟨k, rfl⟩)) hk
    rw [hr] at this
    have hm := m.isLt
    have hk := k.isLt
    have toInt_small : ∀ a : ℕ, a < n → (BitVec.ofNat 32 a).toInt = a := by
      intro a ha
      have e : (BitVec.ofNat 32 a).toNat = a := by rw [BitVec.toNat_ofNat]; exact Nat.mod_eq_of_lt (by omega)
      rw [BitVec.toInt_eq_toNat_cond, e, if_pos (by omega)]
    simp only [toInt_small _ hm, toInt_small _ hk] at this
    exact Fin.le_def.2 (by omega)

/-! ## The entry a gather takes -/

/-- Taking single entries of a square, each at the row and the column two words name. -/
theorem gather_pair {α : Type} (d : GatherDims ⟨2, ![n, n]⟩ ⟨2, ![n, 2]⟩ ⟨1, ![n]⟩) (hoff : d.offsetDims = [])
    (hcoll : d.collapsedSliceDims = [0, 1]) (hob : d.operandBatchingDims = []) (hsb : d.startIndicesBatchingDims = []) (hsim : d.startIndexMap = [0, 1])
    (hivd : d.indexVectorDim = 1) (hss : d.sliceSizes = ![1, 1])
    (x : (⟨2, ![n, n]⟩ : Shape).Idx → α) (idx : IVec ⟨2, ![n, 2]⟩ 32) (i a b : Fin n)
    (ha : (idx (ix2 i 0)).toInt.toNat = a.val) (hb : (idx (ix2 i 1)).toInt.toNat = b.val) :
    Host.gather d x idx (ix1 i) = x (ix2 a b) := by
  obtain ⟨_, _, _, _, _, _, _, wf⟩ := d
  subst hoff hcoll hob hsb hsim hivd hss
  unfold Host.gather
  congr 1
  funext c
  apply Fin.ext
  simp only [GatherDims.operandIdx]
  rw [GatherDims.batchCoord_eq_zero _ _ _ (by simp), GatherDims.offCoord_eq_zero _ _ _ (by rw [GatherDims.mem_sKept]; match c with | ⟨0, _⟩ => simp | ⟨1, _⟩ => simp)]
  simp only [Nat.add_zero]
  unfold GatherDims.start
  match c with
  | ⟨0, _⟩ =>
    refine (dif_pos (show (0 : Fin 2) ∈ ([0, 1] : List (Fin 2)) by simp)).trans ?_
    refine (congrArg (fun k => min (idx k).toInt.toNat (n - 1)) (?_ : _ = ix2 i 0)).trans ?_
    · funext b
      match b with
      | ⟨0, _⟩ => rfl
      | ⟨1, _⟩ => rfl
    · show min _ _ = a.val
      rw [ha]; have := a.isLt; omega
  | ⟨1, _⟩ =>
    refine (dif_pos (show (1 : Fin 2) ∈ ([0, 1] : List (Fin 2)) by simp)).trans ?_
    refine (congrArg (fun k => min (idx k).toInt.toNat (n - 1)) (?_ : _ = ix2 i 1)).trans ?_
    · funext b
      match b with
      | ⟨0, _⟩ => rfl
      | ⟨1, _⟩ => rfl
    · show min _ _ = b.val
      rw [hb]; have := b.isLt; omega

end Knn.First

end
-- ==== Proof.RefRead.lean ====
/- The reference's stages read over real points: its two results are `meanOf` and `accuracyOf`. -/
module

public import proofs.«01_k».proof.Proof.Domain
public import proofs.«01_k».proof.Proof.Spec
public import proofs.«01_k».proof.Proof.First
public import Idealize.ShloMosaic.Lib.IndicatorCount
public import Idealize.ShloMosaic.Lib.Routing.OpsOrder

@[expose] public section

set_option maxRecDepth 16384

noncomputable section

namespace Cert.ReferenceIdeal.Knn

open Idealize.ShloMosaic
open Cert.ReferenceIdeal.Gen
open _root_.Knn _root_.Knn.Select _root_.Knn.Points

variable (x : FVec Ideal S4096x512 .f32) (t : IVec S4096 32)

/-! ## The stages at an index -/

theorem dists_at (i j : Fin 4096) : dists x (ix2 i j) = root (Ideal.ofBits .f32 0x2B8CBCCC#32) (gap (fun i k => x (ix2 i k)) i j) := by
  rw [← gaps_at]
  pointwise [dists, wide]
  rfl

theorem eye_at (i j : Fin 4096) : eye (ix2 i j) = BitVec.ofBool (decide (j = i)) := by
  pointwise [eye]
  rw [WordCmp.cmpi_eq_eq]
  congr 1
  have e : IntOp.addi (BitVec.ofNat 32 i.val) 0#32 = BitVec.ofNat 32 i.val := BitVec.add_zero _
  rw [e]
  refine decide_eq_decide.2 ⟨fun h => Fin.ext ?_, fun h => by rw [h]⟩
  have h' := congrArg BitVec.toNat h
  rw [BitVec.toNat_ofNat, BitVec.toNat_ofNat, Nat.mod_eq_of_lt (by omega), Nat.mod_eq_of_lt (by omega)] at h'
  exact h'.symm

theorem same_at (i j : Fin 4096) : same t (ix2 i j) = BitVec.ofBool (decide (t (ix1 i) = t (ix1 j))) := by
  pointwise [same, acrossI]
  rw [WordCmp.cmpi_eq_eq]

theorem pos_iff (i j : Fin 4096) : pos t (ix2 i j) = 1#1 ↔ Mate (fun i => t (ix1 i)) i j := by
  show IntOp.andi (same t (ix2 i j)) (~~~ eye (ix2 i j)) = 1#1 ↔ _
  rw [same_at, eye_at]
  unfold Mate
  by_cases h1 : t (ix1 i) = t (ix1 j) <;> by_cases h2 : j = i <;> simp [h1, h2] <;> decide

theorem neg_iff (i j : Fin 4096) : neg t (ix2 i j) = 1#1 ↔ t (ix1 i) ≠ t (ix1 j) := by
  show ~~~ same t (ix2 i j) = 1#1 ↔ _
  rw [same_at]
  by_cases h1 : t (ix1 i) = t (ix1 j) <;> simp [h1]

theorem anyOf_iff (m : IVec S4096x4096 1) (i : Fin 4096) : anyOf m (ix1 i) = 1#1 ↔ ∃ j, m (ix2 i j) = 1#1 := by
  have e : anyOf m (ix1 i) = Finset.fold IntOp.ori (0#1) (fun k => m (ix2 i k)) Finset.univ := by pointwise [anyOf]
  rw [e, Routing.fold_ori]
  simp

theorem valid_iff (i : Fin 4096) : valid t (ix1 i) = 1#1 ↔ Counts (fun i => t (ix1 i)) i := by
  show IntOp.andi (anyOf (pos t) (ix1 i)) (anyOf (neg t) (ix1 i)) = 1#1 ↔ _
  rw [IntOp.andi_eq_one, anyOf_iff, anyOf_iff]
  simp only [pos_iff, neg_iff]
  rfl

theorem countOf_at (m : IVec S4096 1) : countOf m ix0 = BitVec.ofNat 32 (Finset.univ.filter fun i => m (ix1 i) = 1#1).card := by
  have e : countOf m ix0 = Finset.fold IntOp.addi (0#32) (fun k => (m (ix1 k)).setWidth 32) Finset.univ := by pointwise [countOf]
  rw [e, IndicatorCount.fold_addi_setWidth_eq_card]

theorem loss_at (a b : FVec Ideal S4096 .f32) (i : Fin 4096) : Host.negf (Host.log (Host.divf a (addf a b))) (ix1 i)
    = -Ideal.log (Ideal.div (a (ix1 i)) (a (ix1 i) + b (ix1 i))) := by pointwise []

theorem rowLoss_at (i : Fin 4096) : rowLoss x t (ix1 i) = -Ideal.log (Ideal.div (posLogit x t (ix1 i))
    (posLogit x t (ix1 i) + kept (andi (neg t) (near x)) x (ix1 i))) := loss_at _ _ i

theorem posLogit_at (i : Fin 4096) : posLogit x t (ix1 i) = Scalar.select (anyOf (andi (pos t) (near x)) (ix1 i))
    (kept (andi (pos t) (near x)) x (ix1 i)) (fallback x t (ix1 i)) := rfl

theorem fallback_at (i : Fin 4096) : fallback x t (ix1 i) = Ideal.exp (((30 : ℝ) : EReal) * (1 - firstDist x t (ix1 i))) := by
  pointwise [fallback, tall]
  rw [word_30]

theorem weights_at (i j : Fin 4096) : weights x (ix2 i j) = Ideal.exp (((30 : ℝ) : EReal) * (1 - dists x (ix2 i j))) := by
  pointwise [weights, wide]
  rw [word_30]

theorem kept_at (m : IVec S4096x4096 1) (i : Fin 4096) :
    kept m x (ix1 i) = ∑ j, Scalar.select (m (ix2 i j)) (weights x (ix2 i j)) 0 := by
  pointwise [kept, wide]

theorem near_at (i j : Fin 4096) : near x (ix2 i j) = BitVec.ofBool (decide (dists x (ix2 i j) < ordered x (ix2 i 16))) := by
  pointwise [near, threshold]

theorem spread_at (a : IVec S4096 32) (i : Fin 4096) : broadcastInDim S4096x1 ![0] bcast_S4096_S4096x1_0 a (ix2 i 0) = a (ix1 i) := by
  pointwise []

theorem iota_at (i : Fin 4096) : iotaInDim S4096 32 0 (ix1 i) = BitVec.ofNat 32 i.val := by
  pointwise []

theorem below_at (v : IVec S4096 1) (l : FVec Ideal S4096 .f32) (w : BitVec 32) (i : Fin 4096) : andi v (cmpf .olt l (tall w)) (ix1 i)
    = IntOp.andi (v (ix1 i)) (BitVec.ofBool (decide (l (ix1 i) < Ideal.ofBits .f32 w))) := by
  pointwise [tall]

theorem index_word (k : Fin 4096) : (BitVec.ofNat 32 k.val).toInt = k.val := by
  have e : (BitVec.ofNat 32 k.val).toNat = k.val := by rw [BitVec.toNat_ofNat]; exact Nat.mod_eq_of_lt (by omega)
  rw [BitVec.toInt_eq_toNat_cond, e, if_pos (by omega)]

theorem wrapped_at (a : IVec S4096 32) (i k : Fin 4096) (hk : a (ix1 i) = BitVec.ofNat 32 k.val) : wrapped a (ix1 i) = BitVec.ofNat 32 k.val := by
  have e : wrapped a (ix1 i) = Scalar.select (IntOp.cmpi .slt (a (ix1 i)) 0#32) (IntOp.addi (a (ix1 i)) 4096#32) (a (ix1 i)) := by
    pointwise [wrapped]
  have h0 : ¬ (BitVec.ofNat 32 k.val).toInt < (0#32).toInt := by
    rw [index_word]; exact not_lt.2 (Int.natCast_nonneg _)
  rw [e, hk, WordCmp.cmpi_slt_eq, decide_eq_false h0]
  rfl

theorem pairUp_left (a b : IVec S4096x1 32) (i : Fin 4096) : pairUp a b (ix2 i 0) = a (ix2 i 0) := by pointwise [pairUp]
theorem pairUp_right (a b : IVec S4096x1 32) (i : Fin 4096) : pairUp a b (ix2 i 1) = b (ix2 i 0) := by pointwise [pairUp]

theorem left_word (a b : IVec S4096x1 32) (i k : Fin 4096) (h : a (ix2 i 0) = BitVec.ofNat 32 k.val) :
    (pairUp a b (ix2 i 0)).toInt.toNat = k.val := by
  rw [pairUp_left, h, index_word]; exact Int.toNat_natCast _
theorem right_word (a b : IVec S4096x1 32) (i k : Fin 4096) (h : b (ix2 i 0) = BitVec.ofNat 32 k.val) :
    (pairUp a b (ix2 i 1)).toInt.toNat = k.val := by
  rw [pairUp_right, h, index_word]; exact Int.toNat_natCast _

theorem taken_at (d : FVec Ideal S4096x4096 .f32) (idx : IVec S4096x2 32) (i f : Fin 4096) (ha : (idx (ix2 i 0)).toInt.toNat = i.val)
    (hb : (idx (ix2 i 1)).toInt.toNat = f.val) : Host.gather gather_S4096x4096_S4096x2_S4096_n_01_n_n_01_1_11 d idx (ix1 i) = d (ix2 i f) :=
  _root_.Knn.First.gather_pair (n := 4096) gather_S4096x4096_S4096x2_S4096_n_01_n_n_01_1_11 rfl rfl rfl rfl rfl rfl rfl d idx i i f ha hb

/-- An entry of a square taken in each row at the row's index. -/
theorem picked_at (d : FVec Ideal S4096x4096 .f32) (a g : IVec S4096 32) (i f : Fin 4096) (ha : a (ix1 i) = BitVec.ofNat 32 i.val)
    (hg : g (ix1 i) = BitVec.ofNat 32 f.val) :
    Host.gather gather_S4096x4096_S4096x2_S4096_n_01_n_n_01_1_11 d (pairUp (broadcastInDim S4096x1 ![0] bcast_S4096_S4096x1_0 (wrapped a))
      (broadcastInDim S4096x1 ![0] bcast_S4096_S4096x1_0 (wrapped g))) (ix1 i) = d (ix2 i f) :=
  taken_at d _ i f (left_word _ _ i i ((spread_at _ i).trans (wrapped_at a i i ha)))
    (right_word _ _ i f ((spread_at _ i).trans (wrapped_at g i f hg)))

theorem argmaxIdx_fun (a : IVec S4096x4096 1) (b : IVec S4096x4096 32) (u : IVec S_ 1) (v : IVec S_ 32) :
    argmaxIdx a b u v = fun j => (Host.reduce2 reducer_argmax_i1_i32 a b u v reducesTo_S4096x4096_S4096_d1 h_S_ j).2 := rfl

theorem argmaxIdx_at (a : IVec S4096x4096 1) (b : IVec S4096x4096 32) (u : IVec S_ 1) (v : IVec S_ 32) (i : Fin 4096) :
    argmaxIdx a b u v (ix1 i) = (Host.reduce2 reducer_argmax_i1_i32 a b u v reducesTo_S4096x4096_S4096_d1 h_S_ (ix1 i)).2 :=
  congrFun (argmaxIdx_fun a b u v) (ix1 i)

theorem argmax_real (a : IVec S4096x4096 1) (b : IVec S4096x4096 32) (hb : ∀ i j : Fin 4096, b (ix2 i j) = BitVec.ofNat 32 j.val)
    (u : IVec S_ 1) (v : IVec S_ 32) (hu : ∀ k, u k = 0#1) (i k : Fin 4096) (h : a (ix2 i k) = 1#1) :
    ∃ f, a (ix2 i f) = 1#1 ∧ (∀ k, a (ix2 i k) = 1#1 → f ≤ k) ∧ argmaxIdx a b u v (ix1 i) = BitVec.ofNat 32 f.val := by
  obtain ⟨f, h1, h2, h3⟩ := _root_.Knn.First.argmax_row (n := 4096) a (by norm_num) b hb u v hu reducesTo_S4096x4096_S4096_d1 h_S_ i k h
  exact ⟨f, h1, h2, (argmaxIdx_at a b u v i).trans h3⟩

/-- The first set column of a row. -/
theorem first_at (m : IVec S4096x4096 1) (i k : Fin 4096) (h : m (ix2 i k) = 1#1) :
    ∃ f, m (ix2 i f) = 1#1 ∧ (∀ k, m (ix2 i k) = 1#1 → f ≤ k) ∧ first m (ix1 i) = BitVec.ofNat 32 f.val :=
  argmax_real m (iotaInDim S4096x4096 32 1) (fun _ _ => rfl) (constantI S_ 1 0#1) (constantI S_ 32 0#32) (fun _ => rfl) i k h

/-- The distance a row takes at its first mate. -/
theorem firstDist_at (i m : Fin 4096) (h : Mate (fun i => t (ix1 i)) i m) :
    firstDist x t (ix1 i) = dists x (ix2 i (firstMate (fun i => t (ix1 i)) i)) := by
  obtain ⟨f, hf, hmin, he⟩ := first_at (pos t) i m ((pos_iff t i m).2 h)
  have hfirst : firstMate (fun i => t (ix1 i)) i = f :=
    firstMate_eq ((pos_iff t i f).1 hf) fun k hk => hmin k ((pos_iff t i k).2 hk)
  rw [hfirst]
  unfold firstDist
  generalize first (pos t) = g at he ⊢
  exact picked_at (dists x) (iotaInDim S4096 32 0) g i f (iota_at i) he

/-! ## Over real points -/

variable {X : Fin 4096 → Fin 512 → ℝ} {σ : Fin 4096 → Equiv.Perm (Fin 4096)}

theorem gap_fun (X : Fin 4096 → Fin 512 → ℝ) (i : Fin 4096) : gap (fun i k => (X i k : EReal)) i = fun j => (dist2 X i j : EReal) :=
  funext fun j => gap_real X i j

/-- The precondition makes the points real, ranked and apart. -/
theorem apart_of_pre (h : Cert.Pre_near_apart.fn (F := Ideal) x t = fun _ => 1#1) :
    ∃ X : Fin 4096 → Fin 512 → ℝ, ∃ σ, (∀ i k, x (ix2 i k) = (X i k : EReal)) ∧ Apart X (fun i => t (ix1 i)) σ := by
  obtain ⟨hr, ht⟩ := rows_ok x t h
  choose σ hσ using hr
  have hfin : ∀ i k, x (ix2 i k) ≠ ⊤ ∧ x (ix2 i k) ≠ ⊥ := fun i k =>
    finite_of_three (fun i k => x (ix2 i k)) ((hσ i).ranked.strict 0 (by omega)) ((hσ i).ranked.strict 1 (by omega)) k
  have hx : (fun i k => x (ix2 i k)) = fun i k => (((x (ix2 i k)).toReal : ℝ) : EReal) :=
    funext fun i => funext fun k => (EReal.coe_toReal (hfin i k).1 (hfin i k).2).symm
  refine ⟨fun i k => (x (ix2 i k)).toReal, σ, fun i k => congrFun (congrFun hx i) k, ?_, ?_, ht⟩
  · intro i
    have := (hσ i).ranked
    rw [hx, gap_fun] at this
    exact this
  · intro i
    have := (hσ i).clear
    rw [hx, gap_fun] at this
    rw [← word_is_clip]
    exact this

section
variable (hx : ∀ i k, x (ix2 i k) = (X i k : EReal)) (A : Apart X (fun i => t (ix1 i)) σ)

include hx in
theorem dists_real (i j : Fin 4096) : dists x (ix2 i j) = root clip (dist2 X i j) := by
  rw [dists_at, word_is_clip, ← gap_real]
  simp only [hx]

include hx A in
/-- The threshold is the distance of rank seventeen. -/
theorem ordered_real (i : Fin 4096) : ordered x (ix2 i 16) = root clip (reach X σ i) := by
  obtain ⟨τ, hτ, hm⟩ := sort_row (n := 4096) (comparator_f32_d1 (F := Ideal)) (fun a b => reference_cmp a b)
    (select eye (wide (F := Ideal) 0x7F800000#32) (dists x)) i
  have e : ∀ j, select eye (wide (F := Ideal) 0x7F800000#32) (dists x) (ix2 i j)
      = if j = i then ⊤ else root clip ((fun j => (dist2 X i j : EReal)) j) := by
    intro j
    show Scalar.select (eye (ix2 i j)) (Ideal.ofBits .f32 0x7F800000#32) (dists x (ix2 i j)) = _
    rw [eye_at, dists_real x hx, word_top]
    by_cases h : j = i <;> simp [h, Scalar.select]
  simp only [e] at hτ hm
  have := (A.ranked i).threshold (A.own i) (root clip) (root_mono _) hm (by
    rw [A.rung_last, root_real clip_pos.le (A.reach_far i)]; exact EReal.coe_ne_top _)
  rw [A.rung_last] at this
  rw [← this]
  exact hτ 16

include hx A in
theorem near_iff {i j : Fin 4096} (h : j ≠ i) : near x (ix2 i j) = 1#1 ↔ Neighbour X σ i j := by
  rw [near_at, WordCmp.ofBool_decide_eq_one_iff, dists_real x hx, ordered_real x t hx A,
    root_lt clip_pos.le (A.far i h) (A.reach_far i), EReal.coe_lt_coe_iff]
  exact ⟨fun hlt => ⟨h, hlt⟩, fun hn => hn.2⟩

include hx A in
theorem pos_near_iff (i j : Fin 4096) : andi (pos t) (near x) (ix2 i j) = 1#1 ↔ t (ix1 i) = t (ix1 j) ∧ Neighbour X σ i j := by
  show IntOp.andi (pos t (ix2 i j)) (near x (ix2 i j)) = 1#1 ↔ _
  rw [IntOp.andi_eq_one, pos_iff]
  constructor
  · rintro ⟨⟨h1, h2⟩, h3⟩; exact ⟨h1, (near_iff x t hx A h2).1 h3⟩
  · rintro ⟨h1, h2⟩; exact ⟨⟨h1, h2.1⟩, (near_iff x t hx A h2.1).2 h2⟩

include hx A in
theorem neg_near_iff (i j : Fin 4096) : andi (neg t) (near x) (ix2 i j) = 1#1 ↔ t (ix1 i) ≠ t (ix1 j) ∧ Neighbour X σ i j := by
  show IntOp.andi (neg t (ix2 i j)) (near x (ix2 i j)) = 1#1 ↔ _
  rw [IntOp.andi_eq_one, neg_iff]
  constructor
  · rintro ⟨h1, h3⟩; exact ⟨h1, (near_iff x t hx A (fun e => h1 (by rw [e]))).1 h3⟩
  · rintro ⟨h1, h2⟩; exact ⟨h1, (near_iff x t hx A h2.1).2 h2⟩

include hx A in
theorem weights_real {i j : Fin 4096} (h : j ≠ i) : weights x (ix2 i j) = (weight (dist2 X i j) : EReal) := by
  rw [weights_at, dists_real x hx, weight_reference clip_pos.le (A.far i h)]

include hx A in
theorem kept_real (m : IVec S4096x4096 1) (i : Fin 4096) (P : Fin 4096 → Prop) [DecidablePred P] (hP : ∀ j, m (ix2 i j) = 1#1 ↔ P j) (hne : ∀ j, P j → j ≠ i) :
    kept m x (ix1 i) = ((∑ j, if P j then weight (dist2 X i j) else 0 : ℝ) : EReal) := by
  rw [kept_at, coe_sum]
  refine Finset.sum_congr rfl fun j _ => ?_
  by_cases h : P j
  · rw [if_pos h, (hP j).2 h, ← weights_real x t hx A (hne j h)]; rfl
  · rw [if_neg h, (BitVec.eq_zero_or_eq_one _).resolve_right fun e => h ((hP j).1 e)]; rfl

include hx A in
theorem rowLoss_real (i : Fin 4096) (hc : Counts (fun i => t (ix1 i)) i) : rowLoss x t (ix1 i) = lossOf X (fun i => t (ix1 i)) σ i := by
  classical
  have hp : kept (andi (pos t) (near x)) x (ix1 i) = (posSum X (fun i => t (ix1 i)) σ i : EReal) := by
    rw [kept_real x t hx A _ i (fun j => t (ix1 i) = t (ix1 j) ∧ Neighbour X σ i j) (pos_near_iff x t hx A i) (fun j h => h.2.1)]; rfl
  have hn : kept (andi (neg t) (near x)) x (ix1 i) = (negSum X (fun i => t (ix1 i)) σ i : EReal) := by
    rw [kept_real x t hx A _ i (fun j => t (ix1 i) ≠ t (ix1 j) ∧ Neighbour X σ i j) (neg_near_iff x t hx A i) (fun j h => h.2.1)]; rfl
  obtain ⟨⟨m, hm⟩, _⟩ := hc
  have hf : fallback x t (ix1 i) = (weight (dist2 X i (firstMate (fun i => t (ix1 i)) i)) : EReal) := by
    rw [fallback_at, firstDist_at x t i m hm, dists_real x hx, weight_reference clip_pos.le (A.far i (firstMate_spec hm).1.2)]
  have hl : posLogit x t (ix1 i) = (posWeight X (fun i => t (ix1 i)) σ i : EReal) := by
    rw [posLogit_at, hp, hf]
    unfold posWeight
    by_cases h : ∃ j, t (ix1 i) = t (ix1 j) ∧ Neighbour X σ i j
    · rw [if_pos h, (anyOf_iff _ i).2 (h.imp fun j hj => (pos_near_iff x t hx A i j).2 hj)]; rfl
    · rw [if_neg h, (BitVec.eq_zero_or_eq_one _).resolve_right fun e =>
        h (((anyOf_iff _ i).1 e).imp fun j hj => (pos_near_iff x t hx A i j).1 hj)]
      rfl
  rw [rowLoss_at, hl, hn]
  rfl

/-- A count of at most 4096 rows, as a word and as a number. -/
theorem count_word (n : ℕ) (hn : n ≤ 4096) : (BitVec.ofNat 32 n).toInt = n := by
  have e : (BitVec.ofNat 32 n).toNat = n := by rw [BitVec.toNat_ofNat]; exact Nat.mod_eq_of_lt (by omega)
  rw [BitVec.toInt_eq_toNat_cond, e, if_pos (by omega)]

theorem card_le (P : Fin 4096 → Prop) [DecidablePred P] : (Finset.univ.filter P).card ≤ 4096 :=
  (Finset.card_filter_le _ _).trans (by simp)

include hx A in
/-- The first result. -/
theorem meanLoss_real : meanLoss x t ix0 = meanOf X (fun i => t (ix1 i)) σ := by
  classical
  have e : meanLoss x t ix0 = Ideal.div (∑ i, Scalar.select (valid t (ix1 i)) (rowLoss x t (ix1 i)) 0)
      (FloatOps.sitofp (F := Ideal) .f32 (IntOp.maxsi (countOf (valid t) ix0) 1#32)) := by pointwise [meanLoss, tall]
  have hcount : countOf (valid t) ix0 = BitVec.ofNat 32 (total fun i => t (ix1 i)) := by
    rw [countOf_at]; unfold total
    congr 2
    ext i
    simp only [Finset.mem_filter, Finset.mem_univ, true_and, valid_iff]
  have hle : total (fun i => t (ix1 i)) ≤ 4096 := card_le _
  rw [e, hcount]
  unfold meanOf
  congr 1
  · unfold lossSum
    refine Finset.sum_congr rfl fun i _ => ?_
    by_cases h : Counts (fun i => t (ix1 i)) i
    · rw [if_pos h, (valid_iff t i).2 h, rowLoss_real x t hx A i h]; rfl
    · rw [if_neg h, (BitVec.eq_zero_or_eq_one _).resolve_right fun e => h ((valid_iff t i).1 e)]; rfl
  · have h1 : (IntOp.maxsi (BitVec.ofNat 32 (total fun i => t (ix1 i))) 1#32).toInt = ((max (total fun i => t (ix1 i)) 1 : ℕ) : ℤ) := by
      unfold IntOp.maxsi
      have e1 : (1#32).toInt = 1 := rfl
      simp only [BitVec.slt, e1, count_word _ hle]
      split
      all_goals (first | rw [count_word _ hle] | rw [e1])
      all_goals simp_all
      all_goals omega
    show (((IntOp.maxsi (BitVec.ofNat 32 (total fun i => t (ix1 i))) 1#32).toInt : ℝ) : EReal) = _
    rw [h1]
    simp

include hx A in
/-- The second result. -/
theorem accuracy_real : accuracy x t ix0 = accuracyOf X (fun i => t (ix1 i)) σ := by
  classical
  have e : accuracy x t ix0 = Ideal.div (FloatOps.sitofp (F := Ideal) .f32
      (countOf (andi (valid t) (cmpf .olt (rowLoss x t) (tall 0x3F19999A#32))) ix0)) (Ideal.ofBits .f32 0x45800000#32) := by
    pointwise [accuracy]
  have hcount : countOf (andi (valid t) (cmpf .olt (rowLoss x t) (tall 0x3F19999A#32))) ix0 = BitVec.ofNat 32 (good X (fun i => t (ix1 i)) σ) := by
    rw [countOf_at]; unfold good
    congr 2
    ext i
    simp only [Finset.mem_filter, Finset.mem_univ, true_and]
    rw [below_at, IntOp.andi_eq_one, valid_iff, WordCmp.ofBool_decide_eq_one_iff]
    exact and_congr_right fun h => by rw [rowLoss_real x t hx A i h]
  have hle : good X (fun i => t (ix1 i)) σ ≤ 4096 := card_le _
  rw [e, hcount]
  unfold accuracyOf
  congr 1
  show (((BitVec.ofNat 32 (good X (fun i => t (ix1 i)) σ)).toInt : ℝ) : EReal) = _
  rw [count_word _ hle]
  simp
end

end Cert.ReferenceIdeal.Knn

end
-- ==== Proof.Equation.lean ====
/- The equation: from memories agreeing on the two arguments, the kernel and the reference end with the same four results. -/
module

public import proofs.«01_k».proof.Defs
public import proofs.«01_k».proof.Proof.Tail
public import proofs.«01_k».proof.Proof.RefRead
public import proofs.«01_k».proof.Proof.RefRun

@[expose] public section

set_option maxRecDepth 16384

noncomputable section

namespace Cert.Proof

open Idealize.ShloMosaic Idealize.SL.Sem Idealize.ShloMosaic.Pointwise

/-- A scalar's one index. -/
theorem scalar_index (i : Cert.KernelIdeal.S_.Idx) : i = ix0 := funext fun a => a.elim0

/-- Where the samples are apart, the kernel's two sums come to the reference's two results. -/
theorem same_results (m : (ℓ : Loc Cert.KernelIdeal.nD Cert.KernelIdeal.τ Cert.KernelIdeal.sig) → Buf (Elt Ideal) ℓ) (c : Dev Cert.KernelIdeal.nD)
    (x : FVec Ideal Cert.KernelIdeal.S4096x512 .f32) (t : IVec Cert.KernelIdeal.S4096 32)
    (ex : m ((c.tc : Thread Cert.KernelIdeal.nD Cert.KernelIdeal.τ).loc Cert.KernelIdeal.main_arg0) = x)
    (et : m ((c.tc : Thread Cert.KernelIdeal.nD Cert.KernelIdeal.τ).loc Cert.KernelIdeal.main_arg1) = t)
    (h : Cert.Pre_near_apart.fn (F := Ideal) x t = fun _ => 1#1) :
    Cert.KernelIdeal.Knn.meanFrom (Cert.KernelIdeal.Knn.accum m c 15 Cert.KernelIdeal.Knn.last_point) = Cert.ReferenceIdeal.Knn.meanLoss (F := Ideal) x t
    ∧ Cert.KernelIdeal.Knn.accuracyFrom (Cert.KernelIdeal.Knn.accum m c 15 Cert.KernelIdeal.Knn.last_point) = Cert.ReferenceIdeal.Knn.accuracy (F := Ideal) x t := by
  obtain ⟨X, σ, hx, A⟩ := Cert.ReferenceIdeal.Knn.apart_of_pre x t h
  have hk : ∀ i k, (m ((c.tc : Thread Cert.KernelIdeal.nD Cert.KernelIdeal.τ).loc Cert.KernelIdeal.main_arg0) : Vec Ideal Cert.KernelIdeal.S4096x512 .f32) (ix2 i k) = (X i k : EReal) := by
    rw [ex]; exact hx
  have ht : ∀ i, (m ((c.tc : Thread Cert.KernelIdeal.nD Cert.KernelIdeal.τ).loc Cert.KernelIdeal.main_arg1) : Vec Ideal Cert.KernelIdeal.S4096 .i32) (ix1 i) = t (ix1 i) := by
    rw [et]; exact fun _ => rfl
  constructor
  · funext i
    rw [scalar_index i]
    exact (Cert.KernelIdeal.Knn.mean_real m c hk ht A).trans (Cert.ReferenceIdeal.Knn.meanLoss_real x t hx A).symm
  · funext i
    rw [scalar_index i]
    exact (Cert.KernelIdeal.Knn.accuracy_at m c hk ht A).trans (Cert.ReferenceIdeal.Knn.accuracy_real x t hx A).symm

/-- The last two results are the number zero. -/
def zeroScalar : FVec Ideal Cert.KernelIdeal.S_ .f32 := constant Cert.KernelIdeal.S_ .f32 0x00000000#32

/-- The claim of equal results. -/
theorem algebraic : Cert.algebraic_KernelIdeal_ReferenceIdeal_pre_near_apart := by
  intro m g m' g' hpre hargs
  refine ⟨fun c => Cert.KernelIdeal.Knn.meanFrom (Cert.KernelIdeal.Knn.accum m c 15 Cert.KernelIdeal.Knn.last_point),
    fun c => Cert.KernelIdeal.Knn.accuracyFrom (Cert.KernelIdeal.Knn.accum m c 15 Cert.KernelIdeal.Knn.last_point),
    fun _ => zeroScalar,
    fun _ => zeroScalar,
    Cert.KernelIdeal.Knn.run_values (F := Ideal) m g, ?_⟩
  refine (θ_run Cert.ReferenceIdeal.defs _ _).mono (fun r h c => ?_) (Cert.ReferenceIdeal.Knn.run_main (F := Ideal) m' g')
  obtain ⟨h0, h1, h2, h3, h4, h5⟩ := h c
  have R := same_results m c _ _ (hargs c).1.symm (hargs c).2.symm (by rw [(hargs c).1, (hargs c).2]; exact hpre c)
  exact ⟨h0.trans R.1.symm, h1.trans R.2.symm, h2, h3, h4, h5⟩

end Cert.Proof

end
-- ==== Proof.lean ====
/- The claim, assembled: the frames, the idealization, and the equation of the two programs' results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Near
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_near_apart.Knn.facts, frame_kernel, frame_ideal, frame_ideal_pre, frame_reference, frame_reference_pre, trivial, algebraic⟩

end Cert.Proof

end
